-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite [hPre_finite : Cert.Pre_finite.Facts] (m : (ℓ : Loc Cert.XattnIdeal.nD Cert.XattnIdeal.τ Cert.XattnIdeal.sig) → Buf (Elt Ideal) ℓ) : Prop :=
  ∀ c : Dev Cert.XattnIdeal.nD,
    (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite [hPre_finite : Cert.Pre_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnIdeal_pre_finite [hXattnIdeal : Cert.XattnIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_XattnRefIdeal_pre_finite [hXattnRefIdeal : Cert.XattnRefIdeal.Facts] [hPre_finite : Cert.Pre_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def preserves_Xattn_XattnIdeal : Prop :=
  True

def algebraic_XattnIdeal_XattnRefIdeal_pre_finite [hXattnIdeal : Cert.XattnIdeal.Facts] [hXattnRefIdeal : Cert.XattnRefIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)) →
    ∃ (v0 : (c : Dev Cert.XattnIdeal.nD) → Buf (Elt Ideal) ((c.tc : Thread Cert.XattnIdeal.nD Cert.XattnIdeal.τ).loc Cert.XattnIdeal.main_v4)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v4) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v33) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v67_0)) (v1 : (c : Dev Cert.InProjIdeal.nD) → Buf (Elt Ideal) ((c.tc : Thread Cert.InProjIdeal.nD Cert.InProjIdeal.τ).loc Cert.InProjIdeal.main_v67_1)) (v2 : (c : Dev Cert.InProjIdeal.nD) → Buf (Elt Ideal) ((c.tc : Thread Cert.InProjIdeal.nD Cert.InProjIdeal.τ).loc Cert.InProjIdeal.main_v67_2)) (v3 : (c : Dev Cert.InProjIdeal.nD) → Buf (Elt Ideal) ((c.tc : Thread Cert.InProjIdeal.nD Cert.InProjIdeal.τ).loc Cert.InProjIdeal.main_v67_3)) (v4 : (c : Dev Cert.InProjIdeal.nD) → Buf (Elt Ideal) ((c.tc : Thread Cert.InProjIdeal.nD Cert.InProjIdeal.τ).loc Cert.InProjIdeal.main_v67_4)) (v5 : (c : Dev Cert.InProjIdeal.nD) → Buf (Elt Ideal) ((c.tc : Thread Cert.InProjIdeal.nD Cert.InProjIdeal.τ).loc Cert.InProjIdeal.main_v67_5)) (v6 : (c : Dev Cert.InProjIdeal.nD) → Buf (Elt Ideal) ((c.tc : Thread Cert.InProjIdeal.nD Cert.InProjIdeal.τ).loc Cert.InProjIdeal.main_v67_6)) (v7 : (c : Dev Cert.InProjIdeal.nD) → Buf (Elt Ideal) ((c.tc : Thread Cert.InProjIdeal.nD Cert.InProjIdeal.τ).loc Cert.InProjIdeal.main_v67_7)) (v8 : (c : Dev Cert.InProjIdeal.nD) → Buf (Elt Ideal) ((c.tc : Thread Cert.InProjIdeal.nD Cert.InProjIdeal.τ).loc Cert.InProjIdeal.main_v67_8)) (v9 : (c : Dev Cert.InProjIdeal.nD) → Buf (Elt Ideal) ((c.tc : Thread Cert.InProjIdeal.nD Cert.InProjIdeal.τ).loc Cert.InProjIdeal.main_v67_9)) (v10 : (c : Dev Cert.InProjIdeal.nD) → Buf (Elt Ideal) ((c.tc : Thread Cert.InProjIdeal.nD Cert.InProjIdeal.τ).loc Cert.InProjIdeal.main_v67_10)) (v11 : (c : Dev Cert.InProjIdeal.nD) → Buf (Elt Ideal) ((c.tc : Thread Cert.InProjIdeal.nD Cert.InProjIdeal.τ).loc Cert.InProjIdeal.main_v67_11)) (v12 : (c : Dev Cert.InProjIdeal.nD) → Buf (Elt Ideal) ((c.tc : Thread Cert.InProjIdeal.nD Cert.InProjIdeal.τ).loc Cert.InProjIdeal.main_v67_12)) (v13 : (c : Dev Cert.InProjIdeal.nD) → Buf (Elt Ideal) ((c.tc : Thread Cert.InProjIdeal.nD Cert.InProjIdeal.τ).loc Cert.InProjIdeal.main_v67_13)) (v14 : (c : Dev Cert.InProjIdeal.nD) → Buf (Elt Ideal) ((c.tc : Thread Cert.InProjIdeal.nD Cert.InProjIdeal.τ).loc Cert.InProjIdeal.main_v67_14)) (v15 : (c : Dev Cert.InProjIdeal.nD) → Buf (Elt Ideal) ((c.tc : Thread Cert.InProjIdeal.nD Cert.InProjIdeal.τ).loc Cert.InProjIdeal.main_v67_15)) (v16 : (c : Dev Cert.InProjIdeal.nD) → Buf (Elt Ideal) ((c.tc : Thread Cert.InProjIdeal.nD Cert.InProjIdeal.τ).loc Cert.InProjIdeal.main_v67_16)) (v17 : (c : Dev Cert.InProjIdeal.nD) → Buf (Elt Ideal) ((c.tc : Thread Cert.InProjIdeal.nD Cert.InProjIdeal.τ).loc Cert.InProjIdeal.main_v67_17)) (v18 : (c : Dev Cert.InProjIdeal.nD) → Buf (Elt Ideal) ((c.tc : Thread Cert.InProjIdeal.nD Cert.InProjIdeal.τ).loc Cert.InProjIdeal.main_v67_18)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v67_0) = v0 c
          ∧ r.2.mem ((c.tc : Thread Cert.InProjIdeal.nD Cert.InProjIdeal.τ).loc Cert.InProjIdeal.main_v67_1) = v1 c
          ∧ r.2.mem ((c.tc : Thread Cert.InProjIdeal.nD Cert.InProjIdeal.τ).loc Cert.InProjIdeal.main_v67_2) = v2 c
          ∧ r.2.mem ((c.tc : Thread Cert.InProjIdeal.nD Cert.InProjIdeal.τ).loc Cert.InProjIdeal.main_v67_3) = v3 c
          ∧ r.2.mem ((c.tc : Thread Cert.InProjIdeal.nD Cert.InProjIdeal.τ).loc Cert.InProjIdeal.main_v67_4) = v4 c
          ∧ r.2.mem ((c.tc : Thread Cert.InProjIdeal.nD Cert.InProjIdeal.τ).loc Cert.InProjIdeal.main_v67_5) = v5 c
          ∧ r.2.mem ((c.tc : Thread Cert.InProjIdeal.nD Cert.InProjIdeal.τ).loc Cert.InProjIdeal.main_v67_6) = v6 c
          ∧ r.2.mem ((c.tc : Thread Cert.InProjIdeal.nD Cert.InProjIdeal.τ).loc Cert.InProjIdeal.main_v67_7) = v7 c
          ∧ r.2.mem ((c.tc : Thread Cert.InProjIdeal.nD Cert.InProjIdeal.τ).loc Cert.InProjIdeal.main_v67_8) = v8 c
          ∧ r.2.mem ((c.tc : Thread Cert.InProjIdeal.nD Cert.InProjIdeal.τ).loc Cert.InProjIdeal.main_v67_9) = v9 c
          ∧ r.2.mem ((c.tc : Thread Cert.InProjIdeal.nD Cert.InProjIdeal.τ).loc Cert.InProjIdeal.main_v67_10) = v10 c
          ∧ r.2.mem ((c.tc : Thread Cert.InProjIdeal.nD Cert.InProjIdeal.τ).loc Cert.InProjIdeal.main_v67_11) = v11 c
          ∧ r.2.mem ((c.tc : Thread Cert.InProjIdeal.nD Cert.InProjIdeal.τ).loc Cert.InProjIdeal.main_v67_12) = v12 c
          ∧ r.2.mem ((c.tc : Thread Cert.InProjIdeal.nD Cert.InProjIdeal.τ).loc Cert.InProjIdeal.main_v67_13) = v13 c
          ∧ r.2.mem ((c.tc : Thread Cert.InProjIdeal.nD Cert.InProjIdeal.τ).loc Cert.InProjIdeal.main_v67_14) = v14 c
          ∧ r.2.mem ((c.tc : Thread Cert.InProjIdeal.nD Cert.InProjIdeal.τ).loc Cert.InProjIdeal.main_v67_15) = v15 c
          ∧ r.2.mem ((c.tc : Thread Cert.InProjIdeal.nD Cert.InProjIdeal.τ).loc Cert.InProjIdeal.main_v67_16) = v16 c
          ∧ r.2.mem ((c.tc : Thread Cert.InProjIdeal.nD Cert.InProjIdeal.τ).loc Cert.InProjIdeal.main_v67_17) = v17 c
          ∧ r.2.mem ((c.tc : Thread Cert.InProjIdeal.nD Cert.InProjIdeal.τ).loc Cert.InProjIdeal.main_v67_18) = v18 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v249) = v0 c
          ∧ r.2.mem ((c.tc : Thread Cert.InProjRefIdeal.nD Cert.InProjRefIdeal.τ).loc Cert.InProjRefIdeal.main_v250) = v1 c
          ∧ r.2.mem ((c.tc : Thread Cert.InProjRefIdeal.nD Cert.InProjRefIdeal.τ).loc Cert.InProjRefIdeal.main_v251) = v2 c
          ∧ r.2.mem ((c.tc : Thread Cert.InProjRefIdeal.nD Cert.InProjRefIdeal.τ).loc Cert.InProjRefIdeal.main_v252) = v3 c
          ∧ r.2.mem ((c.tc : Thread Cert.InProjRefIdeal.nD Cert.InProjRefIdeal.τ).loc Cert.InProjRefIdeal.main_v268) = v4 c
          ∧ r.2.mem ((c.tc : Thread Cert.InProjRefIdeal.nD Cert.InProjRefIdeal.τ).loc Cert.InProjRefIdeal.main_v254) = v5 c
          ∧ r.2.mem ((c.tc : Thread Cert.InProjRefIdeal.nD Cert.InProjRefIdeal.τ).loc Cert.InProjRefIdeal.main_v255) = v6 c
          ∧ r.2.mem ((c.tc : Thread Cert.InProjRefIdeal.nD Cert.InProjRefIdeal.τ).loc Cert.InProjRefIdeal.main_v269) = v7 c
          ∧ r.2.mem ((c.tc : Thread Cert.InProjRefIdeal.nD Cert.InProjRefIdeal.τ).loc Cert.InProjRefIdeal.main_v257) = v8 c
          ∧ r.2.mem ((c.tc : Thread Cert.InProjRefIdeal.nD Cert.InProjRefIdeal.τ).loc Cert.InProjRefIdeal.main_v258) = v9 c
          ∧ r.2.mem ((c.tc : Thread Cert.InProjRefIdeal.nD Cert.InProjRefIdeal.τ).loc Cert.InProjRefIdeal.main_v259) = v10 c
          ∧ r.2.mem ((c.tc : Thread Cert.InProjRefIdeal.nD Cert.InProjRefIdeal.τ).loc Cert.InProjRefIdeal.main_v260) = v11 c
          ∧ r.2.mem ((c.tc : Thread Cert.InProjRefIdeal.nD Cert.InProjRefIdeal.τ).loc Cert.InProjRefIdeal.main_v261) = v12 c
          ∧ r.2.mem ((c.tc : Thread Cert.InProjRefIdeal.nD Cert.InProjRefIdeal.τ).loc Cert.InProjRefIdeal.main_v262) = v13 c
          ∧ r.2.mem ((c.tc : Thread Cert.InProjRefIdeal.nD Cert.InProjRefIdeal.τ).loc Cert.InProjRefIdeal.main_v263) = v14 c
          ∧ r.2.mem ((c.tc : Thread Cert.InProjRefIdeal.nD Cert.InProjRefIdeal.τ).loc Cert.InProjRefIdeal.main_v264) = v15 c
          ∧ r.2.mem ((c.tc : Thread Cert.InProjRefIdeal.nD Cert.InProjRefIdeal.τ).loc Cert.InProjRefIdeal.main_v265) = v16 c
          ∧ r.2.mem ((c.tc : Thread Cert.InProjRefIdeal.nD Cert.InProjRefIdeal.τ).loc Cert.InProjRefIdeal.main_v266) = v17 c
          ∧ r.2.mem ((c.tc : Thread Cert.InProjRefIdeal.nD Cert.InProjRefIdeal.τ).loc Cert.InProjRefIdeal.main_v270) = v18 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v15) = v0 c
          ∧ r.2.mem ((c.tc : Thread Cert.MemKvRefIdeal.nD Cert.MemKvRefIdeal.τ).loc Cert.MemKvRefIdeal.main_v16) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v37) = v0 c
          ∧ r.2.mem ((c.tc : Thread Cert.OutProjRefIdeal.nD Cert.OutProjRefIdeal.τ).loc Cert.OutProjRefIdeal.main_v38) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def Claim : Prop :=
  ∃ (hXattn : Cert.Xattn.Facts) (hXattnIdeal : Cert.XattnIdeal.Facts) (hXattnRefIdeal : Cert.XattnRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hOutProj : Cert.OutProj.Facts) (hOutProjIdeal : Cert.OutProjIdeal.Facts) (hOutProjRefIdeal : Cert.OutProjRefIdeal.Facts) (hPre_finite : Cert.Pre_finite.Facts),
    quiescent_Xattn (hXattn := hXattn)
    ∧ quiescent_XattnIdeal (hXattnIdeal := hXattnIdeal)
    ∧ quiescent_XattnIdeal_pre_finite (hXattnIdeal := hXattnIdeal) (hPre_finite := hPre_finite)
    ∧ quiescent_XattnRefIdeal (hXattnRefIdeal := hXattnRefIdeal)
    ∧ quiescent_XattnRefIdeal_pre_finite (hXattnRefIdeal := hXattnRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Xattn_XattnIdeal
    ∧ algebraic_XattnIdeal_XattnRefIdeal_pre_finite (hXattnIdeal := hXattnIdeal) (hXattnRefIdeal := hXattnRefIdeal) (hPre_finite := hPre_finite)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_OutProj_OutProjIdeal
    ∧ algebraic_OutProjIdeal_OutProjRefIdeal (hOutProjIdeal := hOutProjIdeal) (hOutProjRefIdeal := hOutProjRefIdeal)
-- ==== Pre_finite.lean ====
abbrev S16384x1024 : Shape := ⟨2, ![16384, 1024]⟩
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S16384x1024 .f32) (main_arg1 : FVec F S2048x1024 .f32) (main_arg2 : FVec F S2048x1024 .f32) (main_arg3 : FVec F S1024x1024 .f32) (main_arg4 : FVec F S1024 .f32) (main_arg5 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Xattn.lean ====
abbrev S16384x1024 : Shape := ⟨2, ![16384, 1024]⟩
abbrev S2048x1024 : Shape := ⟨2, ![2048, 1024]⟩
abbrev S1024x1024 : Shape := ⟨2, ![1024, 1024]⟩
abbrev S1024 : Shape := ⟨1, ![1024]⟩
abbrev S1x8x256x1024 : Shape := ⟨4, ![1, 8, 256, 1024]⟩
abbrev S1x1024 : Shape := ⟨2, ![1, 1024]⟩
abbrev S256x1024 : Shape := ⟨2, ![256, 1024]⟩
abbrev S1x1x256x1024 : Shape := ⟨4, ![1, 1, 256, 1024]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S1x8x256x1024, .f32⟩
  | .hbm, ⟨7, _⟩ => ⟨S1x8x256x1024, .f32⟩
  | .hbm, ⟨8, _⟩ => ⟨S1024x1024, .bf16⟩
  | .hbm, ⟨9, _⟩ => ⟨S1x1024, .f32⟩
  | .hbm, ⟨10, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1024x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== XattnRefIdeal.lean ====
abbrev S16384x1024 : Shape := ⟨2, ![16384, 1024]⟩
abbrev S2048x1024 : Shape := ⟨2, ![2048, 1024]⟩
abbrev S1024x1024 : Shape := ⟨2, ![1024, 1024]⟩
abbrev S1024 : Shape := ⟨1, ![1024]⟩
abbrev S8x2048x4x256 : Shape := ⟨4, ![8, 2048, 4, 256]⟩
abbrev S8x256x4x256 : Shape := ⟨4, ![8, 256, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048x1024 : Shape := ⟨3, ![8, 2048, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S8x2048x4x256, .f32⟩
  | .hbm, ⟨7, _⟩ => ⟨S8x256x4x256, .f32⟩
  | .hbm, ⟨8, _⟩ => ⟨S8x256x4x256, .f32⟩
  | .hbm, ⟨9, _⟩ => ⟨S8x4x2048x256, .f32⟩
  | .hbm, ⟨10, _⟩ => ⟨S_, .f32⟩
  | .hbm, ⟨11, _⟩ => ⟨S8x4x2048, .f32⟩
  | .hbm, ⟨12, _⟩ => ⟨S_, .f32⟩
  | .hbm, ⟨13, _⟩ => ⟨S8x4x2048, .f32⟩
  | .hbm, ⟨14, _⟩ => ⟨S8x4x2048, .f32⟩
  | .hbm, ⟨15, _⟩ => ⟨S8x4x2048x1, .f32⟩
  | .hbm, ⟨16, _⟩ => ⟨S8x4x2048x256, .f32⟩
  | .hbm, ⟨17, _⟩ => ⟨S8x4x2048x256, .f32⟩
  | .hbm, ⟨18, _⟩ => ⟨S8x4x2048x256, .f32⟩
  | .hbm, ⟨19, _⟩ => ⟨S_, .f32⟩
  | .hbm, ⟨20, _⟩ => ⟨S8x4x2048, .f32⟩
  | .hbm, ⟨21, _⟩ => ⟨S8x4x2048x1, .f32⟩
  | .hbm, ⟨22, _⟩ => ⟨S8x4x2048x256, .f32⟩
  | .hbm, ⟨23, _⟩ => ⟨S8x4x2048x256, .f32⟩
  | .hbm, ⟨24, _⟩ => ⟨S8x4x256x2048, .f32⟩
  | .hbm, ⟨25, _⟩ => ⟨S8x2048x4x256, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1, .f32⟩
  | .hbm, ⟨39, _⟩ => ⟨S8x2048x1024, .f32⟩
  | .hbm, ⟨40, _⟩ => ⟨S8x2048x1024, .f32⟩
  | .hbm, ⟨41, _⟩ => ⟨S1x1x1024, .f32⟩
  | .hbm, ⟨42, _⟩ => ⟨S8x2048x1024, .f32⟩
  | .hbm, ⟨43, _⟩ => ⟨S8x2048x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x4444 : Shape := ⟨2, ![1024, 4444]⟩
abbrev S1024x128 : Shape := ⟨2, ![1024, 128]⟩
abbrev S_ : Shape := ⟨0, ![]⟩
abbrev S1024x256 : Shape := ⟨2, ![1024, 256]⟩
abbrev S1024x16 : Shape := ⟨2, ![1024, 16]⟩
abbrev S1024x768 : Shape := ⟨2, ![1024, 768]⟩
abbrev S1024x4 : Shape := ⟨2, ![1024, 4]⟩
abbrev S1024x512 : Shape := ⟨2, ![1024, 512]⟩
abbrev S1024x64 : Shape := ⟨2, ![1024, 64]⟩
abbrev S1024x8 : Shape := ⟨2, ![1024, 8]⟩
abbrev S1024x4096 : Shape := ⟨2, ![1024, 4096]⟩
abbrev S1024x4864 : Shape := ⟨2, ![1024, 4864]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S1x1024 : Shape := ⟨2, ![1, 1024]⟩
abbrev S16384x128 : Shape := ⟨2, ![16384, 128]⟩
abbrev S16384x256 : Shape := ⟨2, ![16384, 256]⟩
abbrev S16384x768 : Shape := ⟨2, ![16384, 768]⟩
abbrev S16384x512 : Shape := ⟨2, ![16384, 512]⟩
abbrev S16384x64 : Shape := ⟨2, ![16384, 64]⟩
abbrev S256x1024 : Shape := ⟨2, ![256, 1024]⟩
abbrev S256x512 : Shape := ⟨2, ![256, 512]⟩
abbrev S256x128 : Shape := ⟨2, ![256, 128]⟩
abbrev S256x256 : Shape := ⟨2, ![256, 256]⟩
abbrev S256x768 : Shape := ⟨2, ![256, 768]⟩
abbrev S256x64 : Shape := ⟨2, ![256, 64]⟩
abbrev S256 : Shape := ⟨1, ![256]⟩
abbrev S256x1 : Shape := ⟨2, ![256, 1]⟩

abbrev nBuf : Space → Nat
  | .hbm => 129
  | .vmem => 46
  | .smem => 0
  | _ => 0

abbrev hbmTy0_0 (i : Nat) : BufTy := match i % 128 with
  | 0 => ⟨S16384x1024, .f32⟩
  | 1 => ⟨S1024, .f32⟩
  | 2 => ⟨S1024x4444, .f32⟩
  | 3 => ⟨S1024x128, .f32⟩
  | 4 => ⟨S_, .i32⟩
  | 5 => ⟨S_, .f32⟩
  | 6 => ⟨S1024x128, .f32⟩
  | 7 => ⟨S1024x128, .f32⟩
  | 8 => ⟨S_, .i32⟩
  | 9 => ⟨S_, .f32⟩
  | 10 => ⟨S1024x128, .f32⟩
  | 11 => ⟨S1024x256, .f32⟩
  | 12 => ⟨S_, .i32⟩
  | 13 => ⟨S_, .f32⟩
  | 14 => ⟨S1024x256, .f32⟩
  | 15 => ⟨S1024x256, .f32⟩
  | 16 => ⟨S_, .i32⟩
  | 17 => ⟨S_, .f32⟩
  | 18 => ⟨S1024x256, .f32⟩
  | 19 => ⟨S1024x16, .f32⟩
  | 20 => ⟨S_, .i32⟩
  | 21 => ⟨S_, .f32⟩
  | 22 => ⟨S1024x128, .f32⟩
  | 23 => ⟨S1024x256, .f32⟩
  | 24 => ⟨S_, .i32⟩
  | 25 => ⟨S_, .f32⟩
  | 26 => ⟨S1024x256, .f32⟩
  | 27 => ⟨S1024x768, .f32⟩
  | 28 => ⟨S_, .i32⟩
  | 29 => ⟨S_, .f32⟩
  | 30 => ⟨S1024x768, .f32⟩
  | 31 => ⟨S1024x4, .f32⟩
  | 32 => ⟨S_, .i32⟩
  | 33 => ⟨S_, .f32⟩
  | 34 => ⟨S1024x128, .f32⟩
  | 35 => ⟨S1024x256, .f32⟩
  | 36 => ⟨S_, .i32⟩
  | 37 => ⟨S_, .f32⟩
  | 38 => ⟨S1024x256, .f32⟩
  | 39 => ⟨S1024x256, .f32⟩
  | 40 => ⟨S_, .i32⟩
  | 41 => ⟨S_, .f32⟩
  | 42 => ⟨S1024x256, .f32⟩
  | 43 => ⟨S1024x256, .f32⟩
  | 44 => ⟨S_, .i32⟩
  | 45 => ⟨S_, .f32⟩
  | 46 => ⟨S1024x256, .f32⟩
  | 47 => ⟨S1024x256, .f32⟩
  | 48 => ⟨S_, .i32⟩
  | 49 => ⟨S_, .f32⟩
  | 50 => ⟨S1024x256, .f32⟩
  | 51 => ⟨S1024x256, .f32⟩
  | 52 => ⟨S_, .i32⟩
  | 53 => ⟨S_, .f32⟩
  | 54 => ⟨S1024x256, .f32⟩
  | 55 => ⟨S1024x256, .f32⟩
  | 56 => ⟨S_, .i32⟩
  | 57 => ⟨S_, .f32⟩
  | 58 => ⟨S1024x256, .f32⟩
  | 59 => ⟨S1024x256, .f32⟩
  | 60 => ⟨S_, .i32⟩
  | 61 => ⟨S_, .f32⟩
  | 62 => ⟨S1024x256, .f32⟩
  | 63 => ⟨S1024x256, .f32⟩
  | 64 => ⟨S_, .i32⟩
  | 65 => ⟨S_, .f32⟩
  | 66 => ⟨S1024x256, .f32⟩
  | 67 => ⟨S1024x512, .f32⟩
  | 68 => ⟨S_, .i32⟩
  | 69 => ⟨S_, .f32⟩
  | 70 => ⟨S1024x512, .f32⟩
  | 71 => ⟨S1024x64, .f32⟩
  | 72 => ⟨S_, .i32⟩
  | 73 => ⟨S_, .f32⟩
  | 74 => ⟨S1024x128, .f32⟩
  | 75 => ⟨S1024x8, .f32⟩
  | 76 => ⟨S_, .i32⟩
  | 77 => ⟨S_, .f32⟩
  | 78 => ⟨S1024x128, .f32⟩
  | 79 => ⟨S1024x4096, .f32⟩
  | 80 => ⟨S1024x768, .f32⟩
  | 81 => ⟨S1024x4864, .f32⟩
  | 82 => ⟨S1024x4864, .bf16⟩
  | 83 => ⟨S2048, .i32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S2048, .f32⟩
  | 93 => ⟨S2048x1, .f32⟩
  | 94 => ⟨S1x32, .f32⟩
  | 95 => ⟨S2048x32, .f32⟩
  | 96 => ⟨S2048x32, .f32⟩
  | 97 => ⟨S2048x32, .f32⟩
  | 98 => ⟨S2048x32, .f32⟩
  | 99 => ⟨S2048x32, .f32⟩
  | 100 => ⟨S2048x64, .f32⟩
  | 101 => ⟨S1x2048x1x64, .f32⟩
  | 102 => ⟨S1x2048x8x64, .f32⟩
  | 103 => ⟨S2048x512, .f32⟩
  | 104 => ⟨S2048x32, .f32⟩
  | 105 => ⟨S2048x64, .f32⟩
  | 106 => ⟨S1x2048x1x64, .f32⟩
  | 107 => ⟨S1x2048x8x64, .f32⟩
  | 108 => ⟨S2048x512, .f32⟩
  | 109 => ⟨S1x1024, .f32⟩
  | 110 => ⟨S16384x128, .f32⟩
  | 111 => ⟨S16384x128, .f32⟩
  | 112 => ⟨S16384x256, .f32⟩
  | 113 => ⟨S16384x256, .f32⟩
  | 114 => ⟨S16384x128, .f32⟩
  | 115 => ⟨S16384x256, .f32⟩
  | 116 => ⟨S16384x768, .f32⟩
  | 117 => ⟨S16384x128, .f32⟩
  | 118 => ⟨S16384x256, .f32⟩
  | 119 => ⟨S16384x256, .f32⟩
  | 120 => ⟨S16384x256, .f32⟩
  | 121 => ⟨S16384x256, .f32⟩
  | 122 => ⟨S16384x256, .f32⟩
  | 123 => ⟨S16384x256, .f32⟩
  | 124 => ⟨S16384x256, .f32⟩
  | 125 => ⟨S16384x256, .f32⟩
  | 126 => ⟨S16384x512, .f32⟩
  | 127 => ⟨S16384x64, .f32⟩
  | _ => ⟨S16384x1024, .f32⟩

abbrev hbmTy0_1 (i : Nat) : BufTy := match i % 128 with
  | 0 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4864, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x128, .f32⟩
  | .local _ .vmem, ⟨17, _⟩ => ⟨S256x128, .f32⟩
  | .local _ .vmem, ⟨18, _⟩ => ⟨S256x256, .f32⟩
  | .local _ .vmem, ⟨19, _⟩ => ⟨S256x256, .f32⟩
  | .local _ .vmem, ⟨20, _⟩ => ⟨S256x768, .f32⟩
  | .local _ .vmem, ⟨21, _⟩ => ⟨S256x768, .f32⟩
  | .local _ .vmem, ⟨22, _⟩ => ⟨S256x128, .f32⟩
  | .local _ .vmem, ⟨23, _⟩ => ⟨S256x128, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S256x512, .f32⟩
  | .local _ .vmem, ⟨41, _⟩ => ⟨S256x512, .f32⟩
  | .local _ .vmem, ⟨42, _⟩ => ⟨S256x64, .f32⟩
  | .local _ .vmem, ⟨43, _⟩ => ⟨S256x64, .f32⟩
  | .local _ .vmem, ⟨44, _⟩ => ⟨S256x128, .f32⟩
  | .local _ .vmem, ⟨45, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call3_v0 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_call4_v0 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_call5_v0 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_call6_v0 : Ref sig .tc := ⟨.hbm, 29, rfl⟩
abbrev main_v13 : Ref sig .tc := ⟨.hbm, 30, rfl⟩
abbrev main_v14 : Ref sig .tc := ⟨.hbm, 31, rfl⟩
abbrev main_c_6 : Ref sig .tc := ⟨.hbm, 32, rfl⟩
abbrev main_call7_v0 : Ref sig .tc := ⟨.hbm, 33, rfl⟩
abbrev main_v15 : Ref sig .tc := ⟨.hbm, 34, rfl⟩
abbrev main_v16 : Ref sig .tc := ⟨.hbm, 35, rfl⟩
abbrev main_c_7 : Ref sig .tc := ⟨.hbm, 36, rfl⟩
abbrev main_call8_v0 : Ref sig .tc := ⟨.hbm, 37, rfl⟩
abbrev main_v17 : Ref sig .tc := ⟨.hbm, 38, rfl⟩
abbrev main_v18 : Ref sig .tc := ⟨.hbm, 39, rfl⟩
abbrev main_c_8 : Ref sig .tc := ⟨.hbm, 40, rfl⟩
abbrev main_call9_v0 : Ref sig .tc := ⟨.hbm, 41, rfl⟩
abbrev main_v19 : Ref sig .tc := ⟨.hbm, 42, rfl⟩
abbrev main_v20 : Ref sig .tc := ⟨.hbm, 43, rfl⟩
abbrev main_c_9 : Ref sig .tc := ⟨.hbm, 44, rfl⟩
abbrev main_call10_v0 : Ref sig .tc := ⟨.hbm, 45, rfl⟩
abbrev main_v21 : Ref sig .tc := ⟨.hbm, 46, rfl⟩
abbrev main_v22 : Ref sig .tc := ⟨.hbm, 47, rfl⟩
abbrev main_c_10 : Ref sig .tc := ⟨.hbm, 48, rfl⟩
abbrev main_call11_v0 : Ref sig .tc := ⟨.hbm, 49, rfl⟩
abbrev main_v23 : Ref sig .tc := ⟨.hbm, 50, rfl⟩
abbrev main_v24 : Ref sig .tc := ⟨.hbm, 51, rfl⟩
abbrev main_c_11 : Ref sig .tc := ⟨.hbm, 52, rfl⟩
abbrev main_call12_v0 : Ref sig .tc := ⟨.hbm, 53, rfl⟩
abbrev main_v25 : Ref sig .tc := ⟨.hbm, 54, rfl⟩
abbrev main_v26 : Ref sig .tc := ⟨.hbm, 55, rfl⟩
abbrev main_c_12 : Ref sig .tc := ⟨.hbm, 56, rfl⟩
abbrev main_call13_v0 : Ref sig .tc := ⟨.hbm, 57, rfl⟩
abbrev main_v27 : Ref sig .tc := ⟨.hbm, 58, rfl⟩
abbrev main_v28 : Ref sig .tc := ⟨.hbm, 59, rfl⟩
abbrev main_c_13 : Ref sig .tc := ⟨.hbm, 60, rfl⟩
abbrev main_call14_v0 : Ref sig .tc := ⟨.hbm, 61, rfl⟩
abbrev main_v29 : Ref sig .tc := ⟨.hbm, 62, rfl⟩
abbrev main_v30 : Ref sig .tc := ⟨.hbm, 63, rfl⟩
abbrev main_c_14 : Ref sig .tc := ⟨.hbm, 64, rfl⟩
abbrev main_call15_v0 : Ref sig .tc := ⟨.hbm, 65, rfl⟩
abbrev main_v31 : Ref sig .tc := ⟨.hbm, 66, rfl⟩
abbrev main_v32 : Ref sig .tc := ⟨.hbm, 67, rfl⟩
abbrev main_c_15 : Ref sig .tc := ⟨.hbm, 68, rfl⟩
abbrev main_call16_v0 : Ref sig .tc := ⟨.hbm, 69, rfl⟩
abbrev main_v33 : Ref sig .tc := ⟨.hbm, 70, rfl⟩
abbrev main_v34 : Ref sig .tc := ⟨.hbm, 71, rfl⟩
abbrev main_c_16 : Ref sig .tc := ⟨.hbm, 72, rfl⟩
abbrev main_call17_v0 : Ref sig .tc := ⟨.hbm, 73, rfl⟩
abbrev main_v35 : Ref sig .tc := ⟨.hbm, 74, rfl⟩
abbrev main_v36 : Ref sig .tc := ⟨.hbm, 75, rfl⟩
abbrev main_c_17 : Ref sig .tc := ⟨.hbm, 76, rfl⟩
abbrev main_call18_v0 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst : Ref sig .tc := ⟨.hbm, 86, rfl⟩
abbrev main_v45 : Ref sig .tc := ⟨.hbm, 87, rfl⟩
abbrev main_v46 : Ref sig .tc := ⟨.hbm, 88, rfl⟩
abbrev main_cst_18 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67_0 : Ref sig .tc := ⟨.hbm, 110, rfl⟩
abbrev main_v67_1 : Ref sig .tc := ⟨.hbm, 111, rfl⟩
abbrev main_v67_2 : Ref sig .tc := ⟨.hbm, 112, rfl⟩
abbrev main_v67_3 : Ref sig .tc := ⟨.hbm, 113, rfl⟩
abbrev main_v67_4 : Ref sig .tc := ⟨.hbm, 114, rfl⟩
abbrev main_v67_5 : Ref sig .tc := ⟨.hbm, 115, rfl⟩
abbrev main_v67_6 : Ref sig .tc := ⟨.hbm, 116, rfl⟩
abbrev main_v67_7 : Ref sig .tc := ⟨.hbm, 117, rfl⟩
abbrev main_v67_8 : Ref sig .tc := ⟨.hbm, 118, rfl⟩
abbrev main_v67_9 : Ref sig .tc := ⟨.hbm, 119, rfl⟩
abbrev main_v67_10 : Ref sig .tc := ⟨.hbm, 120, rfl⟩
abbrev main_v67_11 : Ref sig .tc := ⟨.hbm, 121, rfl⟩
abbrev main_v67_12 : Ref sig .tc := ⟨.hbm, 122, rfl⟩
abbrev main_v67_13 : Ref sig .tc := ⟨.hbm, 123, rfl⟩
abbrev main_v67_14 : Ref sig .tc := ⟨.hbm, 124, rfl⟩
abbrev main_v67_15 : Ref sig .tc := ⟨.hbm, 125, rfl⟩
abbrev main_v67_16 : Ref sig .tc := ⟨.hbm, 126, rfl⟩
abbrev main_v67_17 : Ref sig .tc := ⟨.hbm, 127, rfl⟩
abbrev main_v67_18 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== InProjRefIdeal.lean ====
abbrev S16384x1024 : Shape := ⟨2, ![16384, 1024]⟩
abbrev S1024 : Shape := ⟨1, ![1024]⟩
abbrev S1024x4444 : Shape := ⟨2, ![1024, 4444]⟩
abbrev S2048 : Shape := ⟨1, ![2048]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4444 : Shape := ⟨3, ![8, 2048, 4444]⟩
abbrev S8x2048x128 : Shape := ⟨3, ![8, 2048, 128]⟩
abbrev S8x2048x256 : Shape := ⟨3, ![8, 2048, 256]⟩
abbrev S8x2048x16 : Shape := ⟨3, ![8, 2048, 16]⟩
abbrev S8x2048x768 : Shape := ⟨3, ![8, 2048, 768]⟩
abbrev S8x2048x4 : Shape := ⟨3, ![8, 2048, 4]⟩
abbrev S8x2048x512 : Shape := ⟨3, ![8, 2048, 512]⟩
abbrev S8x2048x64 : Shape := ⟨3, ![8, 2048, 64]⟩
abbrev S8x2048x8 : Shape := ⟨3, ![8, 2048, 8]⟩
abbrev S8x2048x4x64 : Shape := ⟨4, ![8, 2048, 4, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x4x32 : Shape := ⟨4, ![8, 2048, 4, 32]⟩
abbrev S1x2048x1x32 : Shape := ⟨4, ![1, 2048, 1, 32]⟩
abbrev S8x2048x8x64 : Shape := ⟨4, ![8, 2048, 8, 64]⟩
abbrev S8x2048x8x32 : Shape := ⟨4, ![8, 2048, 8, 32]⟩
abbrev S8x2048x1x64 : Shape := ⟨4, ![8, 2048, 1, 64]⟩
abbrev S8x2048x1x32 : Shape := ⟨4, ![8, 2048, 1, 32]⟩
abbrev S16384x128 : Shape := ⟨2, ![16384, 128]⟩
abbrev S16384x256 : Shape := ⟨2, ![16384, 256]⟩
abbrev S16384x16 : Shape := ⟨2, ![16384, 16]⟩
abbrev S16384x768 : Shape := ⟨2, ![16384, 768]⟩
abbrev S16384x4 : Shape := ⟨2, ![16384, 4]⟩
abbrev S16384x512 : Shape := ⟨2, ![16384, 512]⟩
abbrev S16384x64 : Shape := ⟨2, ![16384, 64]⟩
abbrev S16384x8 : Shape := ⟨2, ![16384, 8]⟩

abbrev nBuf : Space → Nat
  | .hbm => 300
  | .vmem => 0
  | .smem => 0
  | _ => 0

abbrev hbmTy0_0 (i : Nat) : BufTy := match i % 128 with
  | 0 => ⟨S16384x1024, .f32⟩
  | 1 => ⟨S1024, .f32⟩
  | 2 => ⟨S1024x4444, .f32⟩
  | 3 => ⟨S2048, .i32⟩
  | 4 => ⟨S8x2048x1024, .f32⟩
  | 5 => ⟨S8x2048x1024, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S8x2048x4444, .f32⟩
  | 22 => ⟨S8x2048x128, .f32⟩
  | 23 => ⟨S8x2048x128, .f32⟩
  | 24 => ⟨S8x2048x256, .f32⟩
  | 25 => ⟨S8x2048x256, .f32⟩
  | 26 => ⟨S8x2048x16, .f32⟩
  | 27 => ⟨S8x2048x256, .f32⟩
  | 28 => ⟨S8x2048x768, .f32⟩
  | 29 => ⟨S8x2048x4, .f32⟩
  | 30 => ⟨S8x2048x256, .f32⟩
  | 31 => ⟨S8x2048x256, .f32⟩
  | 32 => ⟨S8x2048x256, .f32⟩
  | 33 => ⟨S8x2048x256, .f32⟩
  | 34 => ⟨S8x2048x256, .f32⟩
  | 35 => ⟨S8x2048x256, .f32⟩
  | 36 => ⟨S8x2048x256, .f32⟩
  | 37 => ⟨S8x2048x256, .f32⟩
  | 38 => ⟨S8x2048x512, .f32⟩
  | 39 => ⟨S8x2048x64, .f32⟩
  | 40 => ⟨S8x2048x8, .f32⟩
  | 41 => ⟨S_, .f32⟩
  | 42 => ⟨S8x2048x128, .f32⟩
  | 43 => ⟨S8x2048x128, .f32⟩
  | 44 => ⟨S8x2048x4x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S2048, .f32⟩
  | 54 => ⟨S2048x1, .f32⟩
  | 55 => ⟨S1x32, .f32⟩
  | 56 => ⟨S2048x32, .f32⟩
  | 57 => ⟨S2048x32, .f32⟩
  | 58 => ⟨S2048x32, .f32⟩
  | 59 => ⟨S2048x32, .f32⟩
  | 60 => ⟨S2048x1x32, .f32⟩
  | 61 => ⟨S2048x32, .f32⟩
  | 62 => ⟨S2048x1x32, .f32⟩
  | 63 => ⟨S8x2048x4x32, .f32⟩
  | 64 => ⟨S8x2048x4x32, .f32⟩
  | 65 => ⟨S1x2048x1x32, .f32⟩
  | 66 => ⟨S8x2048x4x32, .f32⟩
  | 67 => ⟨S8x2048x4x32, .f32⟩
  | 68 => ⟨S1x2048x1x32, .f32⟩
  | 69 => ⟨S8x2048x4x32, .f32⟩
  | 70 => ⟨S8x2048x4x32, .f32⟩
  | 71 => ⟨S8x2048x4x32, .f32⟩
  | 72 => ⟨S1x2048x1x32, .f32⟩
  | 73 => ⟨S8x2048x4x32, .f32⟩
  | 74 => ⟨S8x2048x4x32, .f32⟩
  | 75 => ⟨S1x2048x1x32, .f32⟩
  | 76 => ⟨S8x2048x4x32, .f32⟩
  | 77 => ⟨S8x2048x4x32, .f32⟩
  | 78 => ⟨S8x2048x4x32, .f32⟩
  | 79 => ⟨S8x2048x4x64, .f32⟩
  | 80 => ⟨S_, .f32⟩
  | 81 => ⟨S8x2048x4x64, .f32⟩
  | 82 => ⟨S8x2048x4x64, .f32⟩
  | 83 => ⟨S8x2048x4x64, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S2048, .f32⟩
  | 93 => ⟨S2048x1, .f32⟩
  | 94 => ⟨S1x32, .f32⟩
  | 95 => ⟨S2048x32, .f32⟩
  | 96 => ⟨S2048x32, .f32⟩
  | 97 => ⟨S2048x32, .f32⟩
  | 98 => ⟨S2048x32, .f32⟩
  | 99 => ⟨S2048x1x32, .f32⟩
  | 100 => ⟨S2048x32, .f32⟩
  | 101 => ⟨S2048x1x32, .f32⟩
  | 102 => ⟨S8x2048x4x32, .f32⟩
  | 103 => ⟨S8x2048x4x32, .f32⟩
  | 104 => ⟨S1x2048x1x32, .f32⟩
  | 105 => ⟨S8x2048x4x32, .f32⟩
  | 106 => ⟨S8x2048x4x32, .f32⟩
  | 107 => ⟨S1x2048x1x32, .f32⟩
  | 108 => ⟨S8x2048x4x32, .f32⟩
  | 109 => ⟨S8x2048x4x32, .f32⟩
  | 110 => ⟨S8x2048x4x32, .f32⟩
  | 111 => ⟨S1x2048x1x32, .f32⟩
  | 112 => ⟨S8x2048x4x32, .f32⟩
  | 113 => ⟨S8x2048x4x32, .f32⟩
  | 114 => ⟨S1x2048x1x32, .f32⟩
  | 115 => ⟨S8x2048x4x32, .f32⟩
  | 116 => ⟨S8x2048x4x32, .f32⟩
  | 117 => ⟨S8x2048x4x32, .f32⟩
  | 118 => ⟨S8x2048x4x64, .f32⟩
  | 119 => ⟨S8x2048x4x64, .f32⟩
  | 120 => ⟨S32, .f32⟩
  | 121 => ⟨S32, .f32⟩
  | 122 => ⟨S_, .f32⟩
  | 123 => ⟨S32, .f32⟩
  | 124 => ⟨S32, .f32⟩
  | 125 => ⟨S_, .f32⟩
  | 126 => ⟨S32, .f32⟩
  | 127 => ⟨S32, .f32⟩
  | _ => ⟨S16384x1024, .f32⟩

abbrev hbmTy0_1 (i : Nat) : BufTy := match i % 128 with
  | 0 => ⟨S2048, .f32⟩
  | 1 => ⟨S2048x1, .f32⟩
  | 2 => ⟨S1x32, .f32⟩
  | 3 => ⟨S2048x32, .f32⟩
  | 4 => ⟨S2048x32, .f32⟩
  | 5 => ⟨S2048x32, .f32⟩
  | 6 => ⟨S2048x32, .f32⟩
  | 7 => ⟨S2048x1x32, .f32⟩
  | 8 => ⟨S2048x32, .f32⟩
  | 9 => ⟨S2048x1x32, .f32⟩
  | 10 => ⟨S8x2048x4x32, .f32⟩
  | 11 => ⟨S8x2048x4x32, .f32⟩
  | 12 => ⟨S1x2048x1x32, .f32⟩
  | 13 => ⟨S8x2048x4x32, .f32⟩
  | 14 => ⟨S8x2048x4x32, .f32⟩
  | 15 => ⟨S1x2048x1x32, .f32⟩
  | 16 => ⟨S8x2048x4x32, .f32⟩
  | 17 => ⟨S8x2048x4x32, .f32⟩
  | 18 => ⟨S8x2048x4x32, .f32⟩
  | 19 => ⟨S1x2048x1x32, .f32⟩
  | 20 => ⟨S8x2048x4x32, .f32⟩
  | 21 => ⟨S8x2048x4x32, .f32⟩
  | 22 => ⟨S1x2048x1x32, .f32⟩
  | 23 => ⟨S8x2048x4x32, .f32⟩
  | 24 => ⟨S8x2048x4x32, .f32⟩
  | 25 => ⟨S8x2048x4x32, .f32⟩
  | 26 => ⟨S8x2048x4x64, .f32⟩
  | 27 => ⟨S_, .f32⟩
  | 28 => ⟨S8x2048x4x64, .f32⟩
  | 29 => ⟨S8x2048x4x64, .f32⟩
  | 30 => ⟨S8x2048x4x64, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S2048, .f32⟩
  | 40 => ⟨S2048x1, .f32⟩
  | 41 => ⟨S1x32, .f32⟩
  | 42 => ⟨S2048x32, .f32⟩
  | 43 => ⟨S2048x32, .f32⟩
  | 44 => ⟨S2048x32, .f32⟩
  | 45 => ⟨S2048x32, .f32⟩
  | 46 => ⟨S2048x1x32, .f32⟩
  | 47 => ⟨S2048x32, .f32⟩
  | 48 => ⟨S2048x1x32, .f32⟩
  | 49 => ⟨S8x2048x4x32, .f32⟩
  | 50 => ⟨S8x2048x4x32, .f32⟩
  | 51 => ⟨S1x2048x1x32, .f32⟩
  | 52 => ⟨S8x2048x4x32, .f32⟩
  | 53 => ⟨S8x2048x4x32, .f32⟩
  | 54 => ⟨S1x2048x1x32, .f32⟩
  | 55 => ⟨S8x2048x4x32, .f32⟩
  | 56 => ⟨S8x2048x4x32, .f32⟩
  | 57 => ⟨S8x2048x4x32, .f32⟩
  | 58 => ⟨S1x2048x1x32, .f32⟩
  | 59 => ⟨S8x2048x4x32, .f32⟩
  | 60 => ⟨S8x2048x4x32, .f32⟩
  | 61 => ⟨S1x2048x1x32, .f32⟩
  | 62 => ⟨S8x2048x4x32, .f32⟩
  | 63 => ⟨S8x2048x4x32, .f32⟩
  | 64 => ⟨S8x2048x4x32, .f32⟩
  | 65 => ⟨S8x2048x4x64, .f32⟩
  | 66 => ⟨S8x2048x8x64, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S2048, .f32⟩
  | 76 => ⟨S2048x1, .f32⟩
  | 77 => ⟨S1x32, .f32⟩
  | 78 => ⟨S2048x32, .f32⟩
  | 79 => ⟨S2048x32, .f32⟩
  | 80 => ⟨S2048x32, .f32⟩
  | 81 => ⟨S2048x32, .f32⟩
  | 82 => ⟨S2048x1x32, .f32⟩
  | 83 => ⟨S2048x32, .f32⟩
  | 84 => ⟨S2048x1x32, .f32⟩
  | 85 => ⟨S8x2048x8x32, .f32⟩
  | 86 => ⟨S8x2048x8x32, .f32⟩
  | 87 => ⟨S1x2048x1x32, .f32⟩
  | 88 => ⟨S8x2048x8x32, .f32⟩
  | 89 => ⟨S8x2048x8x32, .f32⟩
  | 90 => ⟨S1x2048x1x32, .f32⟩
  | 91 => ⟨S8x2048x8x32, .f32⟩
  | 92 => ⟨S8x2048x8x32, .f32⟩
  | 93 => ⟨S8x2048x8x32, .f32⟩
  | 94 => ⟨S1x2048x1x32, .f32⟩
  | 95 => ⟨S8x2048x8x32, .f32⟩
  | 96 => ⟨S8x2048x8x32, .f32⟩
  | 97 => ⟨S1x2048x1x32, .f32⟩
  | 98 => ⟨S8x2048x8x32, .f32⟩
  | 99 => ⟨S8x2048x8x32, .f32⟩
  | 100 => ⟨S8x2048x8x32, .f32⟩
  | 101 => ⟨S8x2048x8x64, .f32⟩
  | 102 => ⟨S_, .f32⟩
  | 103 => ⟨S8x2048x8x64, .f32⟩
  | 104 => ⟨S8x2048x8x64, .f32⟩
  | 105 => ⟨S8x2048x1x64, .f32⟩
  | 106 => ⟨S32, .f32⟩
  | 107 => ⟨S32, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S2048, .f32⟩
  | 115 => ⟨S2048x1, .f32⟩
  | 116 => ⟨S1x32, .f32⟩
  | 117 => ⟨S2048x32, .f32⟩
  | 118 => ⟨S2048x32, .f32⟩
  | 119 => ⟨S2048x32, .f32⟩
  | 120 => ⟨S2048x32, .f32⟩
  | 121 => ⟨S2048x1x32, .f32⟩
  | 122 => ⟨S2048x32, .f32⟩
  | 123 => ⟨S2048x1x32, .f32⟩
  | 124 => ⟨S8x2048x1x32, .f32⟩
  | 125 => ⟨S8x2048x1x32, .f32⟩
  | 126 => ⟨S1x2048x1x32, .f32⟩
  | 127 => ⟨S8x2048x1x32, .f32⟩
  | _ => ⟨S16384x1024, .f32⟩

abbrev hbmTy0_2 (i : Nat) : BufTy := match i % 128 with
  | 0 => ⟨S8x2048x1x32, .f32⟩
  | 1 => ⟨S1x2048x1x32, .f32⟩
  | 2 => ⟨S8x2048x1x32, .f32⟩
  | 3 => ⟨S8x2048x1x32, .f32⟩
  | 4 => ⟨S8x2048x1x32, .f32⟩
  | 5 => ⟨S1x2048x1x32, .f32⟩
  | 6 => ⟨S8x2048x1x32, .f32⟩
  | 7 => ⟨S8x2048x1x32, .f32⟩
  | 8 => ⟨S1x2048x1x32, .f32⟩
  | 9 => ⟨S8x2048x1x32, .f32⟩
  | 10 => ⟨S8x2048x1x32, .f32⟩
  | 11 => ⟨S8x2048x1x32, .f32⟩
  | 12 => ⟨S8x2048x1x64, .f32⟩
  | 13 => ⟨S_, .f32⟩
  | 14 => ⟨S8x2048x8, .f32⟩
  | 15 => ⟨S8x2048x8, .f32⟩
  | 16 => ⟨S16384x128, .f32⟩
  | 17 => ⟨S16384x128, .f32⟩
  | 18 => ⟨S16384x256, .f32⟩
  | 19 => ⟨S16384x256, .f32⟩
  | 20 => ⟨S16384x16, .f32⟩
  | 21 => ⟨S16384x256, .f32⟩
  | 22 => ⟨S16384x768, .f32⟩
  | 23 => ⟨S16384x4, .f32⟩
  | 24 => ⟨S16384x256, .f32⟩
  | 25 => ⟨S16384x256, .f32⟩
  | 26 => ⟨S16384x256, .f32⟩
  | 27 => ⟨S16384x256, .f32⟩
  | 28 => ⟨S16384x256, .f32⟩
  | 29 => ⟨S16384x256, .f32⟩
  | 30 => ⟨S16384x256, .f32⟩
  | 31 => ⟨S16384x256, .f32⟩
  | 32 => ⟨S16384x512, .f32⟩
  | 33 => ⟨S16384x64, .f32⟩
  | 34 => ⟨S16384x8, .f32⟩
  | 35 => ⟨S_, .i32⟩
  | 36 => ⟨S_, .f32⟩
  | 37 => ⟨S16384x128, .f32⟩
  | 38 => ⟨S_, .i32⟩
  | 39 => ⟨S_, .f32⟩
  | 40 => ⟨S16384x128, .f32⟩
  | 41 => ⟨S_, .i32⟩
  | 42 => ⟨S_, .f32⟩
  | 43 => ⟨S16384x128, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_5 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_cst_6 : Ref sig .tc := ⟨.hbm, 86, rfl⟩
abbrev main_v76 : Ref sig .tc := ⟨.hbm, 87, rfl⟩
abbrev main_v77 : Ref sig .tc := ⟨.hbm, 88, rfl⟩
abbrev main_cst_7 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_cst_8 : Ref sig .tc := ⟨.hbm, 122, rfl⟩
abbrev main_v110 : Ref sig .tc := ⟨.hbm, 123, rfl⟩
abbrev main_v111 : Ref sig .tc := ⟨.hbm, 124, rfl⟩
abbrev main_cst_9 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_cst_10 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_cst_11 : Ref sig .tc := ⟨.hbm, 161, rfl⟩
abbrev main_v146 : Ref sig .tc := ⟨.hbm, 162, rfl⟩
abbrev main_v147 : Ref sig .tc := ⟨.hbm, 163, rfl⟩
abbrev main_cst_12 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_cst_13 : Ref sig .tc := ⟨.hbm, 197, rfl⟩
abbrev main_v180 : Ref sig .tc := ⟨.hbm, 198, rfl⟩
abbrev main_v181 : Ref sig .tc := ⟨.hbm, 199, rfl⟩
abbrev main_cst_14 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_cst_15 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_cst_16 : Ref sig .tc := ⟨.hbm, 236, rfl⟩
abbrev main_v216 : Ref sig .tc := ⟨.hbm, 237, rfl⟩
abbrev main_v217 : Ref sig .tc := ⟨.hbm, 238, rfl⟩
abbrev main_cst_17 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_cst_18 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_c : Ref sig .tc := ⟨.hbm, 291, rfl⟩
abbrev main_call0_v0 : Ref sig .tc := ⟨.hbm, 292, rfl⟩
abbrev main_v268 : Ref sig .tc := ⟨.hbm, 293, rfl⟩
abbrev main_c_19 : Ref sig .tc := ⟨.hbm, 294, rfl⟩
abbrev main_call1_v0 : Ref sig .tc := ⟨.hbm, 295, rfl⟩
abbrev main_v269 : Ref sig .tc := ⟨.hbm, 296, rfl⟩
abbrev main_c_20 : Ref sig .tc := ⟨.hbm, 297, rfl⟩
abbrev main_call2_v0 : Ref sig .tc := ⟨.hbm, 298, rfl⟩
abbrev main_v270 : Ref sig .tc := ⟨.hbm, 299, rfl⟩

abbrev nD : Nat := 1
abbrev τ : Topo := Topo.v7x

variable {F : FTy → Type} [FloatOps F]
-- ==== MemKv.lean ====
abbrev S8x256x1024 : Shape := ⟨3, ![8, 256, 1024]⟩
abbrev S1024 : Shape := ⟨1, ![1024]⟩
abbrev S1024x1024 : Shape := ⟨2, ![1024, 1024]⟩
abbrev S2048x1024 : Shape := ⟨2, ![2048, 1024]⟩
abbrev S1024x2048 : Shape := ⟨2, ![1024, 2048]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S2048x1024, .f32⟩
  | .hbm, ⟨5, _⟩ => ⟨S1024x2048, .f32⟩
  | .hbm, ⟨6, _⟩ => ⟨S1024x2048, .bf16⟩
  | .hbm, ⟨7, _⟩ => ⟨S1x1024, .f32⟩
  | .hbm, ⟨8, _⟩ => ⟨S2048x1024, .f32⟩
  | .hbm, ⟨9, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x1024, .f32⟩
  | .hbm, ⟨22, _⟩ => ⟨S2048x1024, .f32⟩
  | .hbm, ⟨23, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutProj.lean ====
abbrev S16384x256 : Shape := ⟨2, ![16384, 256]⟩
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 18
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024x1024, .bf16⟩
  | .hbm, ⟨13, _⟩ => ⟨S16384x1024, .f32⟩
  | .hbm, ⟨14, _⟩ => ⟨S16384x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjRefIdeal.lean ====
abbrev S16384x256 : Shape := ⟨2, ![16384, 256]⟩
abbrev S16384x1024 : Shape := ⟨2, ![16384, 1024]⟩
abbrev S1024x1024 : Shape := ⟨2, ![1024, 1024]⟩
abbrev S1024 : Shape := ⟨1, ![1024]⟩
abbrev S8x2048x256 : Shape := ⟨3, ![8, 2048, 256]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S8x2048x256, .f32⟩
  | .hbm, ⟨10, _⟩ => ⟨S8x2048x256, .f32⟩
  | .hbm, ⟨11, _⟩ => ⟨S8x2048x256, .f32⟩
  | .hbm, ⟨12, _⟩ => ⟨S8x2048x256, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x2048x1024, .f32⟩
  | .hbm, ⟨52, _⟩ => ⟨S8x2048x1024, .f32⟩
  | .hbm, ⟨53, _⟩ => ⟨S16384x1024, .f32⟩
  | .hbm, ⟨54, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.XattnSpec.lean ====
/- One row of a softmax attention over a memory, over the extended reals: the kernel's order of operations and the
   reference's, and the equality of the two at finite scores. -/
module

public import Idealize.ShloMosaic.Lib.Pointwise
public import Idealize.ShloMosaic.Lib.IdealHost

@[expose] public section

noncomputable section

namespace Cert.XattnSpec

open Idealize.ShloMosaic

/-- The extended real is a real number. -/
def Fin' (x : EReal) : Prop := ∃ r : ℝ, x = r

/-- The score of a query row with each of the memory's key rows. -/
def score (q : Fin 256 → EReal) (K : Fin 256 → Fin 256 → EReal) (j : Fin 256) : EReal := ∑ d, q d * K j d

/-- The weight of memory row `j` before normalization: the exponential of its score less the greatest score. -/
def weight (q : Fin 256 → EReal) (K : Fin 256 → Fin 256 → EReal) (j : Fin 256) : EReal :=
  Ideal.exp (score q K j - Finset.univ.fold max ⊥ (score q K))

/-- One head's output as the kernel computes it: the weighted sum, then the product with the reciprocal of the
    weights' sum. -/
def headK (q : Fin 256 → EReal) (K V : Fin 256 → Fin 256 → EReal) (e : Fin 256) : EReal :=
  (∑ j, weight q K j * V j e) * Ideal.div 1 (∑ j, weight q K j)

/-- One head's output as the reference computes it: the sum weighted by the softmax. -/
def headR (q : Fin 256 → EReal) (K V : Fin 256 → Fin 256 → EReal) (e : Fin 256) : EReal :=
  ∑ j, V j e * Ideal.div (weight q K j) (∑ j, weight q K j)

/-- The product of a real number that is not negative distributes over a finite sum. -/
theorem sum_mul_coe {n : ℕ} (f : Fin n → EReal) {r : ℝ} (hr : 0 ≤ r) : (∑ j, f j) * (r : EReal) = ∑ j, f j * (r : EReal) := by
  induction n with
  | zero => simp
  | succ n ih =>
    rw [Fin.sum_univ_succ, Fin.sum_univ_succ, ← ih fun j => f j.succ]
    exact EReal.right_distrib_of_nonneg_of_ne_top (by exact_mod_cast hr) (EReal.coe_ne_top r) _ _

/-- A finite sum of real numbers, summed as extended reals. -/
theorem coe_sum {n : ℕ} (g : Fin n → ℝ) : ∑ j, (g j : EReal) = ((∑ j, g j : ℝ) : EReal) := by
  induction n with
  | zero => simp
  | succ n ih => rw [Fin.sum_univ_succ, Fin.sum_univ_succ, ih, EReal.coe_add]

/-- A finite sum of real numbers is a real number. -/
theorem sum_fin {n : ℕ} (f : Fin n → EReal) (h : ∀ j, Fin' (f j)) : Fin' (∑ j, f j) := by
  choose g hg using h
  exact ⟨∑ j, g j, by simp only [hg]; exact coe_sum g⟩

/-- Where queries and keys are real numbers, so is each score. -/
theorem score_fin {q : Fin 256 → EReal} {K : Fin 256 → Fin 256 → EReal} (hq : ∀ d, Fin' (q d)) (hK : ∀ j d, Fin' (K j d))
    (j : Fin 256) : Fin' (score q K j) :=
  sum_fin _ fun d => by
    obtain ⟨a, ha⟩ := hq d
    obtain ⟨b, hb⟩ := hK j d
    exact ⟨a * b, by rw [ha, hb]; push_cast; rfl⟩

/-- The greatest score is one of the scores. -/
theorem fold_max_mem {n : ℕ} (f : Fin (n + 1) → EReal) : ∃ j, Finset.univ.fold max ⊥ f = f j := by
  have h : Finset.univ.fold max ⊥ f = Finset.univ.sup f := rfl
  obtain ⟨j, -, hj⟩ := Finset.exists_mem_eq_sup Finset.univ ⟨0, Finset.mem_univ _⟩ f
  exact ⟨j, h.trans hj⟩

/-- Where queries and keys are real numbers, each weight is a positive real number. -/
theorem weight_pos {q : Fin 256 → EReal} {K : Fin 256 → Fin 256 → EReal} (hq : ∀ d, Fin' (q d)) (hK : ∀ j d, Fin' (K j d))
    (j : Fin 256) : ∃ r : ℝ, 0 < r ∧ weight q K j = r := by
  obtain ⟨a, ha⟩ := score_fin hq hK j
  obtain ⟨i, hi⟩ := fold_max_mem (score q K)
  obtain ⟨b, hb⟩ := score_fin hq hK i
  exact ⟨Real.exp (a - b), Real.exp_pos _, by rw [weight, hi, ha, hb, ← EReal.coe_sub]; rfl⟩

/-- At real queries and keys the kernel's head is the reference's. -/
theorem headK_eq {q : Fin 256 → EReal} {K : Fin 256 → Fin 256 → EReal} (hq : ∀ d, Fin' (q d)) (hK : ∀ j d, Fin' (K j d))
    (V : Fin 256 → Fin 256 → EReal) (e : Fin 256) : headK q K V e = headR q K V e := by
  choose w hw0 hw using weight_pos hq hK
  have hS : (∑ j, weight q K j) = ((∑ j, w j : ℝ) : EReal) := by
    simp only [hw]; exact coe_sum w
  have hpos : 0 < ∑ j, w j := Finset.sum_pos (fun j _ => hw0 j) ⟨0, Finset.mem_univ _⟩
  have hne : ((∑ j, w j : ℝ) : EReal) ≠ 0 := by exact_mod_cast hpos.ne'
  rw [headK, headR, hS]
  simp only [Ideal.div, if_neg hne, one_mul, ← EReal.coe_inv]
  rw [sum_mul_coe _ (inv_nonneg.2 hpos.le)]
  exact Finset.sum_congr rfl fun j _ => by ac_nf

/-- The part of a row of 1024 columns that head `h` takes. -/
def part (Q : Fin 1024 → EReal) (h : Fin 4) (d : Fin 256) : EReal := Q ⟨h * 256 + d, by omega⟩

/-- The projection of the heads' outputs as the kernel takes it: head by head. -/
def accK (Q : Fin 1024 → EReal) (K V : Fin 256 → Fin 1024 → EReal) (W : Fin 1024 → Fin 1024 → EReal) (c : Fin 1024) : EReal :=
  ∑ h, ∑ e, headK (part Q h) (fun j => part (K j) h) (fun j => part (V j) h) e * part (fun i => W i c) h e

/-- The same over the reference's heads. -/
def accR (Q : Fin 1024 → EReal) (K V : Fin 256 → Fin 1024 → EReal) (W : Fin 1024 → Fin 1024 → EReal) (c : Fin 1024) : EReal :=
  ∑ h, ∑ e, headR (part Q h) (fun j => part (K j) h) (fun j => part (V j) h) e * part (fun i => W i c) h e

/-- The residual with the normalized projection: `x + a · rsqrt(mean a² + ε) · g`. -/
def out (a g x : Fin 1024 → EReal) (c : Fin 1024) : EReal :=
  x c + a c * Ideal.rsqrt (Ideal.div (∑ i, a i * a i) (Ideal.ofBits .f32 0x44800000#32) + Ideal.ofBits .f32 0x358637BD#32) * g c

/-- At real queries and keys the two projections agree. -/
theorem accK_eq {Q : Fin 1024 → EReal} {K : Fin 256 → Fin 1024 → EReal} (hQ : ∀ d, Fin' (Q d)) (hK : ∀ j d, Fin' (K j d))
    (V : Fin 256 → Fin 1024 → EReal) (W : Fin 1024 → Fin 1024 → EReal) : accK Q K V W = accR Q K V W := by
  funext c
  refine Finset.sum_congr rfl fun h _ => Finset.sum_congr rfl fun e _ => ?_
  rw [headK_eq (q := part Q h) (K := fun j => part (K j) h) (fun d => hQ _) (fun j d => hK j _)]

/-- The pattern of minus infinity. -/
theorem ofBits_neg_inf : Ideal.ofBits .f32 0xFF800000#32 = ⊥ := by simp [Ideal.ofBits, Ideal.ieee]

end Cert.XattnSpec

end
-- ==== Proof.XattnKer.lean ====
/- The kernel's cross-attention: what one grid point stores, read at an index of its block. -/
module

public import proofs.«01_k».proof.Proof.XattnSpec
public import proofs.«01_k».proof.Proof.Gen.XattnIdeal.Frame
public import Idealize.ShloMosaic.Lib.Pipeline.ValueKit

@[expose] public section

set_option maxRecDepth 16384

noncomputable section

namespace Cert.XattnIdeal.Read

open Idealize.ShloMosaic Idealize.ShloMosaic.TcCoe Idealize.SL.Sem Cert.XattnIdeal Cert.XattnIdeal.Gen Cert.XattnSpec

/-- Head 3's output before its projection. -/
theorem pay10_at (x : FVec Ideal S256x256 .f32) (y z : FVec Ideal S1x1x256x256 .f32) (r e : Fin 256) :
    k0_pay10 (F := Ideal) x y z (ix2 r e) = headK (fun d => x (ix2 r d)) (fun j d => y (ix4 0 0 j d)) (fun j d => z (ix4 0 0 j d)) e := by
  pointwise [k0_pay10]
  rw [ofBits_neg_inf]
  rfl

/-- Head 0's projected output. -/
theorem pay2_at (x : FVec Ideal S256x256 .f32) (y z : FVec Ideal S1x1x256x256 .f32) (w : FVec Ideal S256x1024 .bf16) (r : Fin 256) (c : Fin 1024) :
    k0_pay2 (F := Ideal) x y z w (ix2 r c) = ∑ e, headK (fun d => x (ix2 r d)) (fun j d => y (ix4 0 0 j d)) (fun j d => z (ix4 0 0 j d)) e * w (ix2 e c) := by
  pointwise [k0_pay2]
  rw [ofBits_neg_inf]
  rfl

/-- The projected outputs of the heads before, with head 1's. -/
theorem pay5_at (a : FVec Ideal S256x1024 .f32) (x : FVec Ideal S256x256 .f32) (y z : FVec Ideal S1x1x256x256 .f32) (w : FVec Ideal S256x1024 .bf16)
    (r : Fin 256) (c : Fin 1024) :
    k0_pay5 (F := Ideal) a (k0_pay3 x) (k0_pay4 y) z w (ix2 r c) = a (ix2 r c) +
      ∑ e, headK (fun d => x (ix2 r d)) (fun j d => y (ix4 0 0 j d)) (fun j d => z (ix4 0 0 j d)) e * w (ix2 e c) := by
  pointwise [k0_pay5, k0_pay3, k0_pay4]
  rw [ofBits_neg_inf]
  rfl

/-- The projected outputs of the heads before, with head 2's. -/
theorem pay9_at (a : FVec Ideal S256x1024 .f32) (x : FVec Ideal S256x256 .f32) (y z : FVec Ideal S1x1x256x256 .f32) (w : FVec Ideal S256x1024 .bf16)
    (r : Fin 256) (c : Fin 1024) :
    k0_pay9 (F := Ideal) a (k0_pay6 x y) (k0_pay7 x y) (k0_pay8 z) w (ix2 r c) = a (ix2 r c) +
      ∑ e, headK (fun d => x (ix2 r d)) (fun j d => y (ix4 0 0 j d)) (fun j d => z (ix4 0 0 j d)) e * w (ix2 e c) := by
  pointwise [k0_pay9, k0_pay6, k0_pay7, k0_pay8]
  rw [ofBits_neg_inf]
  rfl

/-- The last head's projection added, the norm and the residual. -/
theorem pay1_at (a : FVec Ideal S256x1024 .f32) (o : FVec Ideal S256x256 .bf16) (w : FVec Ideal S256x1024 .bf16) (x : FVec Ideal S256x1024 .f32)
    (g : FVec Ideal S1x1024 .f32) (r : Fin 256) (c : Fin 1024) :
    k0_pay1 (F := Ideal) a o w x g (ix2 r c) = out (fun c => a (ix2 r c) + ∑ e, o (ix2 r e) * w (ix2 e c)) (fun c => g (ix2 0 c)) (fun c => x (ix2 r c)) c := by
  pointwise [k0_pay1]
  rfl

/-- What one grid point stores: the kernel's attention of the block's query row. -/
theorem block_at (x0 : Vec Ideal S256x1024 .f32) (x1 x2 : Vec Ideal S1x1x256x1024 .f32) (x3 : Vec Ideal S1024x1024 .bf16) (x4 : Vec Ideal S1x1024 .f32)
    (x5 : Vec Ideal S256x1024 .f32) (r : Fin 256) (c : Fin 1024) :
    out0_6 x0 x1 x2 x3 x4 x5 (ix2 r c) = out (accK (fun d => x0 (ix2 r d)) (fun j d => x1 (ix4 0 0 j d)) (fun j d => x2 (ix4 0 0 j d))
      (fun i c => x3 (ix2 i c))) (fun c => x4 (ix2 0 c)) (fun c => x5 (ix2 r c)) c := by
  rw [out0_6, View.canon_unit_zero (by decide)]
  rw [pay1_at]
  simp only [pay9_at, pay5_at, pay2_at, pay10_at]
  pointwise []
  refine congrArg (fun a => out a _ _ c) (funext fun c => ?_)
  have p0 : ∀ Q : Fin 1024 → EReal, part Q 0 = fun d : Fin 256 => Q ⟨d, by omega⟩ := fun Q => funext fun d => congrArg Q (Fin.ext (by show 0 * 256 + (d : ℕ) = d; omega))
  rw [accK, Fin.sum_univ_four]
  simp only [p0]
  rfl

end Cert.XattnIdeal.Read

end
-- ==== Proof.XattnRef.lean ====
/- The reference's cross-attention read at an index. -/
module

public import proofs.«01_k».proof.Proof.XattnSpec
public import proofs.«01_k».proof.Proof.Gen.XattnRefIdeal.Run

@[expose] public section

set_option maxRecDepth 16384

noncomputable section

namespace Cert.XattnRefIdeal.Read

open Idealize.ShloMosaic Idealize.ShloMosaic.TcCoe Idealize.SL.Sem Cert.XattnRefIdeal Cert.XattnRefIdeal.Gen Cert.XattnSpec

/-- The scores of every query with every memory row, by head. -/
def scores (Q : FVec Ideal S16384x1024 .f32) (K : FVec Ideal S2048x1024 .f32) : FVec Ideal S8x4x2048x256 .f32 :=
  Host.dotGeneral (φ₁ := .f32) (φ₂ := .f32) dot_S8x2048x4x256_S8x256x4x256_S8x4x2048x256_3_3_1_1_02_02 none (shapeCast _ Q shapeCasts_S16384x1024_S8x2048x4x256)
    (shapeCast _ K shapeCasts_S2048x1024_S8x256x4x256)

/-- The exponentials of scores less each row's number `M`. -/
def expo (S : FVec Ideal S8x4x2048x256 .f32) (M : FVec Ideal S8x4x2048 .f32) : FVec Ideal S8x4x2048x256 .f32 :=
  Host.exp (subf S (broadcastInDim S8x4x2048x256 ![0, 1, 2, 3] bcast_S8x4x2048x1_S8x4x2048x256_0_1_2_3
    (broadcastInDim S8x4x2048x1 ![0, 1, 2] bcast_S8x4x2048_S8x4x2048x1_0_1_2
      (maximumf (broadcastInDim S8x4x2048 ![] bcast_S_S8x4x2048 (constant S_ .f32 0xFF800000#32)) M))))

/-- The exponentials of the scores less each row's greatest. -/
def weights (S : FVec Ideal S8x4x2048x256 .f32) : FVec Ideal S8x4x2048x256 .f32 :=
  expo S (Host.reduce FloatOps.maximumf S (constant S_ .f32 0xFF800000#32) reducesTo_S8x4x2048x256_S8x4x2048_d3 h_S_)

/-- The attention's output by position, its heads side by side. -/
def heads (P : FVec Ideal S8x4x2048x256 .f32) (V : FVec Ideal S2048x1024 .f32) : FVec Ideal S8x2048x1024 .f32 :=
  shapeCast _ (transpose S8x2048x4x256 [0, 3, 1, 2] (Host.dotGeneral (φ₁ := .f32) (φ₂ := .f32) dot_S8x256x4x256_S8x4x2048x256_S8x4x256x2048_1_3_3_2_02_01 none
    (shapeCast _ V shapeCasts_S2048x1024_S8x256x4x256)
    (Host.divf P (broadcastInDim S8x4x2048x256 ![0, 1, 2, 3] bcast_S8x4x2048x1_S8x4x2048x256_0_1_2_3
      (broadcastInDim S8x4x2048x1 ![0, 1, 2] bcast_S8x4x2048_S8x4x2048x1_0_1_2
        (Host.reduceAdd P (constant S_ .f32 0x00000000#32) reducesTo_S8x4x2048x256_S8x4x2048_d3 h_S_)))))
    transposes_S8x4x256x2048_S8x2048x4x256_0_3_1_2) shapeCasts_S8x2048x4x256_S8x2048x1024

/-- The output projection. -/
def proj (O : FVec Ideal S8x2048x1024 .f32) (W : FVec Ideal S1024x1024 .f32) : FVec Ideal S8x2048x1024 .f32 :=
  Host.dotGeneral (φ₁ := .f32) (φ₂ := .f32) dot_S8x2048x1024_S1024x1024_S8x2048x1024_2_0_01_1_n_n none O W

/-- The residual with the normalized projection. -/
def post (Y : FVec Ideal S8x2048x1024 .f32) (g : FVec Ideal S1024 .f32) (X : FVec Ideal S16384x1024 .f32) : FVec Ideal S16384x1024 .f32 :=
  addf X (shapeCast _ (mulf (mulf Y (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf Y Y) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g)))
    shapeCasts_S8x2048x1024_S16384x1024)

/-- The reference's result. -/
def REF (Q : FVec Ideal S16384x1024 .f32) (K V : FVec Ideal S2048x1024 .f32) (W : FVec Ideal S1024x1024 .f32)
    (g : FVec Ideal S1024 .f32) (X : FVec Ideal S16384x1024 .f32) : FVec Ideal S16384x1024 .f32 :=
  post (proj (heads (weights (scores Q K)) V) W) g X

/-- The run's result is that term. -/
theorem res_eq (m : (ℓ : Loc nD τ sig) → Buf (Elt Ideal) ℓ) (c : Dev nD) :
    Value.res_main_v33 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-- A score. -/
theorem scores_at (Q : FVec Ideal S16384x1024 .f32) (K : FVec Ideal S2048x1024 .f32) (b : Fin 8) (h : Fin 4) (l : Fin 2048) (j : Fin 256) :
    scores Q K (ix4 b h l j) = score (part (fun d => Q (ix2 ⟨b * 2048 + l, by omega⟩ d)) h)
      (fun j => part (fun d => K (ix2 ⟨b * 256 + j, by omega⟩ d)) h) j := by
  pointwise [scores]
  rfl

/-- A maximum along the last axis, from minus infinity. -/
theorem max_at (S : FVec Ideal S8x4x2048x256 .f32) (b : Fin 8) (h : Fin 4) (l : Fin 2048) :
    Host.reduce FloatOps.maximumf S (constant S_ .f32 0xFF800000#32) reducesTo_S8x4x2048x256_S8x4x2048_d3 h_S_ (ix3 b h l) =
      Finset.univ.fold max ⊥ (fun j : Fin 256 => S (ix4 b h l j)) := by
  pointwise []
  rw [ofBits_neg_inf]

/-- An exponential. -/
theorem expo_at (S : FVec Ideal S8x4x2048x256 .f32) (M : FVec Ideal S8x4x2048 .f32) (b : Fin 8) (h : Fin 4) (l : Fin 2048) (j : Fin 256) :
    expo S M (ix4 b h l j) = Ideal.exp (S (ix4 b h l j) - M (ix3 b h l)) := by
  pointwise [expo]
  rw [ofBits_neg_inf, max_eq_right bot_le]

/-- A weight. -/
theorem weights_at (S : FVec Ideal S8x4x2048x256 .f32) (b : Fin 8) (h : Fin 4) (l : Fin 2048) (j : Fin 256) :
    weights S (ix4 b h l j) = Ideal.exp (S (ix4 b h l j) - Finset.univ.fold max ⊥ (fun j : Fin 256 => S (ix4 b h l j))) := by
  rw [weights, expo_at, max_at]

/-- An element of the attention's output. -/
theorem heads_at (P : FVec Ideal S8x4x2048x256 .f32) (V : FVec Ideal S2048x1024 .f32) (b : Fin 8) (l : Fin 2048) (h : Fin 4) (e : Fin 256) :
    heads P V (ix3 b l ⟨h * 256 + e, by omega⟩) = ∑ j : Fin 256, V (ix2 ⟨b * 256 + j, by omega⟩ ⟨h * 256 + e, by omega⟩) *
      Ideal.div (P (ix4 b h l j)) (∑ j, P (ix4 b h l j)) := by
  have h1 : ((h : ℕ) * 256 + e) / 256 = h := by omega
  pointwise [heads, h1]

/-- The attention's output is each head's. -/
theorem heads_eq (Q : FVec Ideal S16384x1024 .f32) (K V : FVec Ideal S2048x1024 .f32) (b : Fin 8) (l : Fin 2048) (h : Fin 4) (e : Fin 256) :
    heads (weights (scores Q K)) V (ix3 b l ⟨h * 256 + e, by omega⟩) =
      headR (part (fun d => Q (ix2 ⟨b * 2048 + l, by omega⟩ d)) h)
        (fun j => part (fun d => K (ix2 ⟨b * 256 + j, by omega⟩ d)) h) (fun j => part (fun d => V (ix2 ⟨b * 256 + j, by omega⟩ d)) h) e := by
  rw [heads_at]
  simp only [weights_at, scores_at]
  rfl

/-- An element of the projection, its contraction cut by heads. -/
theorem proj_at (O : FVec Ideal S8x2048x1024 .f32) (W : FVec Ideal S1024x1024 .f32) (b : Fin 8) (l : Fin 2048) (c : Fin 1024) :
    proj O W (ix3 b l c) = ∑ h : Fin 4, ∑ e : Fin 256, O (ix3 b l ⟨h * 256 + e, by omega⟩) * W (ix2 ⟨h * 256 + e, by omega⟩ c) := by
  pointwise [proj]
  exact Fin.sum_univ_tiles 4 256 rfl _

/-- An element of the result, from the projection. -/
theorem post_at (Y : FVec Ideal S8x2048x1024 .f32) (g : FVec Ideal S1024 .f32) (X : FVec Ideal S16384x1024 .f32) (r : Fin 16384) (c : Fin 1024) :
    post Y g X (ix2 r c) = out (fun c => Y (ix3 ⟨r / 2048, by omega⟩ ⟨r % 2048, by omega⟩ c)) (fun c => g (ix1 c)) (fun c => X (ix2 r c)) c := by
  pointwise [post]
  rfl

/-- An element of the reference's result. -/
theorem REF_at (Q : FVec Ideal S16384x1024 .f32) (K V : FVec Ideal S2048x1024 .f32) (W : FVec Ideal S1024x1024 .f32)
    (g : FVec Ideal S1024 .f32) (X : FVec Ideal S16384x1024 .f32) (r : Fin 16384) (c : Fin 1024) :
    REF Q K V W g X (ix2 r c) = out (accR (fun d => Q (ix2 r d)) (fun j d => K (ix2 ⟨r / 2048 * 256 + j, by omega⟩ d))
      (fun j d => V (ix2 ⟨r / 2048 * 256 + j, by omega⟩ d)) (fun i c => W (ix2 i c))) (fun c => g (ix1 c)) (fun c => X (ix2 r c)) c := by
  rw [REF, post_at]
  refine congrArg (fun a => out a _ _ c) ?_
  funext c
  rw [proj_at]
  have hr : (⟨r / 2048 * 2048 + r % 2048, by omega⟩ : Fin 16384) = r := Fin.ext (by show (r : ℕ) / 2048 * 2048 + r % 2048 = r; omega)
  simp only [heads_eq, hr]
  rfl

end Cert.XattnRefIdeal.Read

end
-- ==== Proof.XattnValue.lean ====
/- The cross-attention's result array after the run is the reference's, at real queries and keys. -/
module

public import proofs.«01_k».proof.Proof.XattnKer
public import proofs.«01_k».proof.Proof.XattnRef

@[expose] public section

set_option maxRecDepth 16384

noncomputable section

namespace Cert.XattnIdeal.Value

open Idealize.ShloMosaic Idealize.ShloMosaic.TcCoe Idealize.SL.Sem Cert.XattnIdeal Cert.XattnIdeal.Gen Cert.XattnSpec
open Idealize.ShloMosaic.Pipeline (Dat)

variable (m : (ℓ : Loc nD τ sig) → Buf (Elt Ideal) ℓ)

/-- The block each window holds at each grid point. -/
theorem idx : ∀ t : Fin cfg0.N, win0_0.index t = ![t.val, 0] ∧ win0_1.index t = ![0, t.val / 8, 0, 0]
    ∧ win0_2.index t = ![0, t.val / 8, 0, 0] ∧ win0_3.index t = ![0, 0] ∧ win0_4.index t = ![0, 0]
    ∧ win0_5.index t = ![t.val, 0] ∧ win0_6.index t = ![t.val, 0] :=
  (by decide +kernel : ∀ t : Fin grid0.N, _)

/-- There are 64 grid points. -/
theorem lt64 (t : Fin cfg0.N) : t.val < 64 := t.isLt

/-- The queries' block. -/
theorem q_at (c : Dev nD) (t : Fin cfg0.N) (r : Fin 256) (d : Fin 1024) :
    iblk m c 0 t (ix2 r d) = m ((c : Thread nD τ).loc main_arg0) (ix2 ⟨t.val * 256 + r, by have := lt64 t; omega⟩ d) := by
  blk_point [iblk, V, idx t]

/-- The keys' block. -/
theorem k_at (c : Dev nD) (t : Fin cfg0.N) (j : Fin 256) (d : Fin 1024) :
    iblk m c 1 t (ix4 0 0 j d) = m ((c : Thread nD τ).loc main_arg1) (ix2 ⟨t.val / 8 * 256 + j, by have := lt64 t; omega⟩ d) := by
  blk_point [iblk, idx t]

/-- The values' block. -/
theorem v_at (c : Dev nD) (t : Fin cfg0.N) (j : Fin 256) (d : Fin 1024) :
    iblk m c 2 t (ix4 0 0 j d) = m ((c : Thread nD τ).loc main_arg2) (ix2 ⟨t.val / 8 * 256 + j, by have := lt64 t; omega⟩ d) := by
  blk_point [iblk, idx t]

/-- The projection's weights. -/
theorem w_at (c : Dev nD) (t : Fin cfg0.N) (i d : Fin 1024) :
    iblk m c 3 t (ix2 i d) = m ((c : Thread nD τ).loc main_arg3) (ix2 i d) := by
  blk_point [iblk, idx t]

/-- The norm's weights. -/
theorem g_at (c : Dev nD) (t : Fin cfg0.N) (d : Fin 1024) :
    iblk m c 4 t (ix2 0 d) = m ((c : Thread nD τ).loc main_arg4) (ix1 d) := by
  blk_point [iblk, idx t]

/-- The residual's block. -/
theorem x_at (c : Dev nD) (t : Fin cfg0.N) (r : Fin 256) (d : Fin 1024) :
    iblk m c 5 t (ix2 r d) = m ((c : Thread nD τ).loc main_arg5) (ix2 ⟨t.val * 256 + r, by have := lt64 t; omega⟩ d) := by
  blk_point [iblk, V, idx t]

/-- The reference's result over the kernel's arguments. -/
abbrev ref (c : Dev nD) : FVec Ideal S16384x1024 .f32 :=
  XattnRefIdeal.Read.REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a grid point stores is the reference's result at its rows. -/
theorem point (c : Dev nD) (hQ : ∀ i, Fin' (m ((c : Thread nD τ).loc main_arg0) i)) (hK : ∀ i, Fin' (m ((c : Thread nD τ).loc main_arg1) i))
    (t : Fin cfg0.N) (r : Fin 256) (d : Fin 1024) :
    out0_6 (iblk m c 0 t) (iblk m c 1 t) (iblk m c 2 t) (iblk m c 3 t) (iblk m c 4 t) (iblk m c 5 t) (ix2 r d)
      = ref m c (ix2 ⟨t.val * 256 + r, by have := lt64 t; omega⟩ d) := by
  have h8 : (t.val * 256 + r) / 2048 = t.val / 8 := by omega
  refine (Read.block_at _ _ _ _ _ _ r d).trans ?_
  refine Eq.trans ?_ (XattnRefIdeal.Read.REF_at _ _ _ _ _ _ _ _).symm
  simp only [h8]
  rw [← accK_eq (fun d => hQ _) (fun j d => hK _)]
  simp only [q_at, k_at, v_at, w_at, g_at, x_at]

/-- The result array after the run. -/
theorem final (c : Dev nD) (hQ : ∀ i, Fin' (m ((c : Thread nD τ).loc main_arg0) i)) (hK : ∀ i, Fin' (m ((c : Thread nD τ).loc main_arg1) i)) :
    (dats m 0 c).arrAt 6 (cfgs 0).N = ref m c := by
  refine (dats m 0 c).arrAt_eq_of_covers 6 _ (by decide +kernel) fun t hf y => ?_
  blk_simp; rw [after0_6]
  idx_vars y
  refine (point m c hQ hK t _ _).trans (congrArg (ref m c) ?_)
  blk_ext [idx t]

end Cert.XattnIdeal.Value

end
-- ==== Proof.XattnClaim.lean ====
/- The cross-attention's value claim. -/
module

public import proofs.«01_k».proof.Defs
public import proofs.«01_k».proof.Proof.XattnValue
public import proofs.«01_k».proof.Proof.Gen.Pre_finite
public import Idealize.ShloMosaic.Lib.Claim
public import Idealize.ShloMosaic.Lib.ReduceAll

@[expose] public section

set_option maxRecDepth 16384

noncomputable section

namespace Cert.XattnClaim

open Idealize.ShloMosaic Idealize.ShloMosaic.TcCoe Idealize.SL.Sem Cert.XattnSpec

/-- An extended real whose magnitude is below infinity is a real number. -/
theorem fin_of_abs_lt {x : EReal} (h : FloatOps.cmpf (F := Ideal) (φ := .f32) .olt (FloatOps.absf (F := Ideal) (φ := .f32) x) (Ideal.ofBits .f32 0x7F800000#32) = 1#1) : Fin' x := by
  have ht : Ideal.ofBits .f32 0x7F800000#32 = ⊤ := by simp [Ideal.ofBits, Ideal.ieee]
  rw [ht] at h
  have h2 : max x (-x) < ⊤ := by
    by_contra hn
    have : FloatOps.cmpf (F := Ideal) (φ := .f32) .olt (FloatOps.absf (F := Ideal) (φ := .f32) x) (⊤ : EReal) = BitVec.ofBool (decide (max x (-x) < ⊤)) := rfl
    rw [this, decide_eq_false hn] at h
    exact absurd h (by decide)
  induction x with
  | coe r => exact ⟨r, rfl⟩
  | bot => exact absurd h2 (by simp)
  | top => exact absurd h2 (by simp)

/-- The precondition makes every query and key a real number. -/
theorem fin_of_pre (q : FVec Ideal Pre_finite.S16384x1024 .f32) (k v : FVec Ideal Pre_finite.S2048x1024 .f32)
    (w : FVec Ideal Pre_finite.S1024x1024 .f32) (g : FVec Ideal Pre_finite.S1024 .f32) (x : FVec Ideal Pre_finite.S16384x1024 .f32)
    (h : @Pre_finite.fn Cert.Pre_finite.Gen.facts Ideal _ q k v w g x = fun _ => 1#1) : (∀ i, Fin' (q i)) ∧ ∀ i, Fin' (k i) := by
  have h0 := congrFun h (fun a => Fin.elim0 a)
  dsimp only [Pre_finite.fn] at h0
  have h1 := (IntOp.andi_eq_one (c := Host.reduce _ _ _ _ _ _)).1 h0
  haveI : Subsingleton Pre_finite.S_.Idx := ⟨fun a b => funext fun i => Fin.elim0 i⟩
  exact ⟨fun i => fin_of_abs_lt (Host.reduce_andi_all _ _ _ _ _ h1.1 i), fun i => fin_of_abs_lt (Host.reduce_andi_all _ _ _ _ _ h1.2 i)⟩

/-- The reference runs, leaves its arguments as they were and every counter at zero. -/
theorem frameRef : Cert.quiescent_XattnRefIdeal (hXattnRefIdeal := Cert.XattnRefIdeal.Gen.facts) := fun m g _ =>
  (θ_run Cert.XattnRefIdeal.defs _ _).mono (fun r h => ⟨fun c => (h c).2, sem_eq_zero_of_no_sems (by decide) r.2⟩)
    (Cert.XattnRefIdeal.Value.run m g)

/-- From finite queries and keys, the kernel and the reference end with equal results. -/
theorem algebraic : Cert.algebraic_XattnIdeal_XattnRefIdeal_pre_finite (hXattnIdeal := Cert.XattnIdeal.Gen.facts) (hXattnRefIdeal := Cert.XattnRefIdeal.Gen.facts) (hPre_finite := Cert.Pre_finite.Gen.facts) := by
  pair_intro
  · run_from Cert.XattnIdeal.Gen.run_main m g
  · run_from Cert.XattnRefIdeal.Value.run m' g'
    rw [XattnRefIdeal.Read.res_eq, (hagree c).1, (hagree c).2.1, (hagree c).2.2.1, (hagree c).2.2.2.1, (hagree c).2.2.2.2.1, (hagree c).2.2.2.2.2]
    exact (Cert.XattnIdeal.Value.final m c (fin_of_pre _ _ _ _ _ _ (hpre c)).1 (fin_of_pre _ _ _ _ _ _ (hpre c)).2).symm

end Cert.XattnClaim

end
-- ==== Proof.RowSpec.lean ====
/- One row of 1024 numbers, normalized and projected, over the extended reals. -/
module

public import proofs.«01_k».proof.Proof.XattnSpec

@[expose] public section

noncomputable section

namespace Cert.RowSpec

open Idealize.ShloMosaic

/-- The normalized row: `a · rsqrt(mean a² + ε) · g`. -/
def nrm (a g : Fin 1024 → EReal) (c : Fin 1024) : EReal :=
  a c * Ideal.rsqrt (Ideal.div (∑ i, a i * a i) (Ideal.ofBits .f32 0x44800000#32) + Ideal.ofBits .f32 0x358637BD#32) * g c

/-- The product of the normalized row with a column `w` of weights. -/
def prj (a g w : Fin 1024 → EReal) : EReal := ∑ i, nrm a g i * w i

/-- A row after the mixers: the four mixers' rows `M` projected by `W` head by head, normalized, with the residual `x`. -/
def outRow (M : Fin 4 → Fin 256 → EReal) (W : Fin 1024 → Fin 1024 → EReal) (g x : Fin 1024 → EReal) : Fin 1024 → EReal :=
  XattnSpec.out (fun c => ∑ h, ∑ e, M h e * W ⟨h * 256 + e, by omega⟩ c) g x

/-- The column that the rotary embedding pairs with column `c`: 32 away, within the same 64. -/
def partner (c : ℕ) : ℕ := if c % 64 < 32 then c + 32 else c - 32

/-- It is a column of the same part. -/
theorem partner_lt {n c : ℕ} (hn : n % 64 = 0) (h : c < n) : partner c < n := by
  unfold partner
  split_ifs <;> omega

/-- The rotation at column `c` of a pair `p` (at `c`) and `q` (at its partner) by the angle `θ`. -/
def turn (c : ℕ) (p q θ : EReal) : EReal :=
  if c % 64 < 32 then p * Ideal.cos θ - q * Ideal.sin θ else p * Ideal.cos θ + q * Ideal.sin θ

/-- The word zero as a number. -/
theorem zero_word : (FloatOps.sitofp (F := Ideal) FTy.f32 (0#32 : BitVec 32) : EReal) = 0 := by
  simp [FloatOps.sitofp]

end Cert.RowSpec

end
-- ==== Proof.InProjRef.lean ====
/- The reference's input projection, cut into its parts and turned by the rotary embedding, read at an index. -/
module

public import proofs.«01_k».proof.Proof.RowSpec
public import proofs.«01_k».proof.Proof.Gen.InProjRefIdeal.Run

@[expose] public section

set_option maxRecDepth 16384

noncomputable section

namespace Cert.InProjRefIdeal.Read

open Idealize.ShloMosaic Idealize.ShloMosaic.TcCoe Idealize.SL.Sem Cert.InProjRefIdeal Cert.InProjRefIdeal.Gen Cert.RowSpec

/-- The tokens by sequence. -/
def toks (X : FVec Ideal S16384x1024 .f32) : FVec Ideal S8x2048x1024 .f32 := shapeCast _ X shapeCasts_S16384x1024_S8x2048x1024

/-- The normalized tokens. -/
def normed (X : FVec Ideal S8x2048x1024 .f32) (g : FVec Ideal S1024 .f32) : FVec Ideal S8x2048x1024 .f32 :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1
    (Host.reduceAdd (mulf X X) (constant S_ .f32 0x00000000#32) reducesTo_S8x2048x1024_S8x2048_d2 h_S_))
      (broadcastInDim S8x2048x1 ![] bcast_S_S8x2048x1 (constant S_ .f32 0x44800000#32)))
      (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The projection to all 4444 columns. -/
def proj (H : FVec Ideal S8x2048x1024 .f32) (W : FVec Ideal S1024x4444 .f32) : FVec Ideal S8x2048x4444 .f32 :=
  Host.dotGeneral (φ₁ := .f32) (φ₂ := .f32) dot_S8x2048x1024_S1024x4444_S8x2048x4444_2_0_01_1_n_n none H W

/-- The projection of the normalized tokens. -/
def PROJ (X : FVec Ideal S16384x1024 .f32) (g : FVec Ideal S1024 .f32) (W : FVec Ideal S1024x4444 .f32) : FVec Ideal S8x2048x4444 .f32 :=
  proj (normed (toks X) g) W

/-- The rotary angle of each position and frequency. -/
def ang : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A function of the angles laid out for a rotation. -/
def table (A : FVec Ideal S2048x32 .f32) : FVec Ideal S1x2048x1x32 .f32 :=
  broadcastInDim S1x2048x1x32 ![1, 2, 3] bcast_S2048x1x32_S1x2048x1x32_1_2_3 (broadcastInDim S2048x1x32 ![0, 2] bcast_S2048x32_S2048x1x32_0_2 A)

/-- The 128 columns from `o`. -/
def cut128 (P : FVec Ideal S8x2048x4444 .f32) (o : ℕ) (h : S8x2048x4444.Slices ![0, 0, o] S8x2048x128) : FVec Ideal S16384x128 .f32 :=
  shapeCast _ (extractStridedSlice S8x2048x128 ![0, 0, o] P h) shapeCasts_S8x2048x128_S16384x128

/-- The first 128 columns, scaled. -/
def scaled128 (P : FVec Ideal S8x2048x4444 .f32) : FVec Ideal S16384x128 .f32 :=
  shapeCast _ (mulf (extractStridedSlice S8x2048x128 ![0, 0, 0] P slices_S8x2048x4444_S8x2048x128_0_0_0)
    (broadcastInDim S8x2048x128 ![] bcast_S_S8x2048x128 (constant S_ .f32 0x3E3504F3#32))) shapeCasts_S8x2048x128_S16384x128

/-- The 256 columns from `o`. -/
def cut256 (P : FVec Ideal S8x2048x4444 .f32) (o : ℕ) (h : S8x2048x4444.Slices ![0, 0, o] S8x2048x256) : FVec Ideal S16384x256 .f32 :=
  shapeCast _ (extractStridedSlice S8x2048x256 ![0, 0, o] P h) shapeCasts_S8x2048x256_S16384x256

/-- The 768 columns from 1040. -/
def cut768 (P : FVec Ideal S8x2048x4444 .f32) : FVec Ideal S16384x768 .f32 :=
  shapeCast _ (extractStridedSlice S8x2048x768 ![0, 0, 1040] P slices_S8x2048x4444_S8x2048x768_0_0_1040) shapeCasts_S8x2048x768_S16384x768

/-- The 16 columns from 768, in 128 columns. -/
def narrow16 (P : FVec Ideal S8x2048x4444 .f32) : FVec Ideal S16384x128 .f32 :=
  pad S16384x128 ![0, 0] ![0, 112] ![0, 0] (shapeCast _ (extractStridedSlice S8x2048x16 ![0, 0, 768] P slices_S8x2048x4444_S8x2048x16_0_0_768)
    shapeCasts_S8x2048x16_S16384x16) (sitofp .f32 (constantI S_ 32 0#32)) pads_S16384x16_S16384x128_000_01120 h_S_

/-- The 4 columns from 1808, in 128 columns. -/
def narrow4 (P : FVec Ideal S8x2048x4444 .f32) : FVec Ideal S16384x128 .f32 :=
  pad S16384x128 ![0, 0] ![0, 124] ![0, 0] (shapeCast _ (extractStridedSlice S8x2048x4 ![0, 0, 1808] P slices_S8x2048x4444_S8x2048x4_0_0_1808)
    shapeCasts_S8x2048x4_S16384x4) (sitofp .f32 (constantI S_ 32 0#32)) pads_S16384x4_S16384x128_000_01240 h_S_

/-- The 8 columns from 4436, scaled, in 128 columns. -/
def narrow8 (P : FVec Ideal S8x2048x4444 .f32) : FVec Ideal S16384x128 .f32 :=
  pad S16384x128 ![0, 0] ![0, 120] ![0, 0] (shapeCast _ (mulf (extractStridedSlice S8x2048x8 ![0, 0, 4436] P slices_S8x2048x4444_S8x2048x8_0_0_4436)
    (broadcastInDim S8x2048x8 ![] bcast_S_S8x2048x8 (constant S_ .f32 0x3EB504F3#32))) shapeCasts_S8x2048x8_S16384x8)
    (sitofp .f32 (constantI S_ 32 0#32)) pads_S16384x8_S16384x128_000_01200 h_S_

/-- Four heads of 64 columns from `o`. -/
def heads4 (P : FVec Ideal S8x2048x4444 .f32) (o : ℕ) (h : S8x2048x4444.Slices ![0, 0, o] S8x2048x256) : FVec Ideal S8x2048x4x64 .f32 :=
  shapeCast _ (extractStridedSlice S8x2048x256 ![0, 0, o] P h) shapeCasts_S8x2048x256_S8x2048x4x64

/-- Four heads turned by the cosines `C` and sines `N`. -/
def turned4 (T : FVec Ideal S8x2048x4x64 .f32) (C N : FVec Ideal S1x2048x1x32 .f32) : FVec Ideal S8x2048x4x64 .f32 :=
  concatenate S8x2048x4x64 3
    [⟨S8x2048x4x32, subf (mulf (extractStridedSlice S8x2048x4x32 ![0, 0, 0, 0] T slices_S8x2048x4x64_S8x2048x4x32_0_0_0_0) (broadcastInDim S8x2048x4x32 ![0, 1, 2, 3] bcast_S1x2048x1x32_S8x2048x4x32_0_1_2_3 C))
      (mulf (extractStridedSlice S8x2048x4x32 ![0, 0, 0, 32] T slices_S8x2048x4x64_S8x2048x4x32_0_0_0_32) (broadcastInDim S8x2048x4x32 ![0, 1, 2, 3] bcast_S1x2048x1x32_S8x2048x4x32_0_1_2_3 N))⟩,
     ⟨S8x2048x4x32, addf (mulf (extractStridedSlice S8x2048x4x32 ![0, 0, 0, 32] T slices_S8x2048x4x64_S8x2048x4x32_0_0_0_32) (broadcastInDim S8x2048x4x32 ![0, 1, 2, 3] bcast_S1x2048x1x32_S8x2048x4x32_0_1_2_3 C))
      (mulf (extractStridedSlice S8x2048x4x32 ![0, 0, 0, 0] T slices_S8x2048x4x64_S8x2048x4x32_0_0_0_0) (broadcastInDim S8x2048x4x32 ![0, 1, 2, 3] bcast_S1x2048x1x32_S8x2048x4x32_0_1_2_3 N))⟩]
    concatenates_S8x2048x4x32_S8x2048x4x32_S8x2048x4x64_d3

/-- The four turned heads, side by side. -/
def rope4 (P : FVec Ideal S8x2048x4444 .f32) (o : ℕ) (h : S8x2048x4444.Slices ![0, 0, o] S8x2048x256) : FVec Ideal S16384x256 .f32 :=
  shapeCast _ (turned4 (heads4 P o h) (table (Host.cos ang)) (table (Host.sin ang))) shapeCasts_S8x2048x4x64_S16384x256

/-- The four turned heads, scaled, side by side. -/
def scaledRope4 (P : FVec Ideal S8x2048x4444 .f32) (o : ℕ) (h : S8x2048x4444.Slices ![0, 0, o] S8x2048x256) : FVec Ideal S16384x256 .f32 :=
  shapeCast _ (mulf (turned4 (heads4 P o h) (table (Host.cos ang)) (table (Host.sin ang)))
    (broadcastInDim S8x2048x4x64 ![] bcast_S_S8x2048x4x64 (constant S_ .f32 0x3E000000#32))) shapeCasts_S8x2048x4x64_S16384x256

/-- Eight heads of 64 columns from 3860. -/
def heads8 (P : FVec Ideal S8x2048x4444 .f32) : FVec Ideal S8x2048x8x64 .f32 :=
  shapeCast _ (extractStridedSlice S8x2048x512 ![0, 0, 3860] P slices_S8x2048x4444_S8x2048x512_0_0_3860) shapeCasts_S8x2048x512_S8x2048x8x64

/-- Eight heads turned by the cosines `C` and sines `N`. -/
def turned8 (T : FVec Ideal S8x2048x8x64 .f32) (C N : FVec Ideal S1x2048x1x32 .f32) : FVec Ideal S8x2048x8x64 .f32 :=
  concatenate S8x2048x8x64 3
    [⟨S8x2048x8x32, subf (mulf (extractStridedSlice S8x2048x8x32 ![0, 0, 0, 0] T slices_S8x2048x8x64_S8x2048x8x32_0_0_0_0) (broadcastInDim S8x2048x8x32 ![0, 1, 2, 3] bcast_S1x2048x1x32_S8x2048x8x32_0_1_2_3 C))
      (mulf (extractStridedSlice S8x2048x8x32 ![0, 0, 0, 32] T slices_S8x2048x8x64_S8x2048x8x32_0_0_0_32) (broadcastInDim S8x2048x8x32 ![0, 1, 2, 3] bcast_S1x2048x1x32_S8x2048x8x32_0_1_2_3 N))⟩,
     ⟨S8x2048x8x32, addf (mulf (extractStridedSlice S8x2048x8x32 ![0, 0, 0, 32] T slices_S8x2048x8x64_S8x2048x8x32_0_0_0_32) (broadcastInDim S8x2048x8x32 ![0, 1, 2, 3] bcast_S1x2048x1x32_S8x2048x8x32_0_1_2_3 C))
      (mulf (extractStridedSlice S8x2048x8x32 ![0, 0, 0, 0] T slices_S8x2048x8x64_S8x2048x8x32_0_0_0_0) (broadcastInDim S8x2048x8x32 ![0, 1, 2, 3] bcast_S1x2048x1x32_S8x2048x8x32_0_1_2_3 N))⟩]
    concatenates_S8x2048x8x32_S8x2048x8x32_S8x2048x8x64_d3

/-- The eight turned heads, scaled, side by side. -/
def scaledRope8 (P : FVec Ideal S8x2048x4444 .f32) : FVec Ideal S16384x512 .f32 :=
  shapeCast _ (mulf (turned8 (heads8 P) (table (Host.cos ang)) (table (Host.sin ang)))
    (broadcastInDim S8x2048x8x64 ![] bcast_S_S8x2048x8x64 (constant S_ .f32 0x3E000000#32))) shapeCasts_S8x2048x8x64_S16384x512

/-- One head of 64 columns from 4372. -/
def heads1 (P : FVec Ideal S8x2048x4444 .f32) : FVec Ideal S8x2048x1x64 .f32 :=
  shapeCast _ (extractStridedSlice S8x2048x64 ![0, 0, 4372] P slices_S8x2048x4444_S8x2048x64_0_0_4372) shapeCasts_S8x2048x64_S8x2048x1x64

/-- One head turned by the cosines `C` and sines `N`. -/
def turned1 (T : FVec Ideal S8x2048x1x64 .f32) (C N : FVec Ideal S1x2048x1x32 .f32) : FVec Ideal S8x2048x1x64 .f32 :=
  concatenate S8x2048x1x64 3
    [⟨S8x2048x1x32, subf (mulf (extractStridedSlice S8x2048x1x32 ![0, 0, 0, 0] T slices_S8x2048x1x64_S8x2048x1x32_0_0_0_0) (broadcastInDim S8x2048x1x32 ![0, 1, 2, 3] bcast_S1x2048x1x32_S8x2048x1x32_0_1_2_3 C))
      (mulf (extractStridedSlice S8x2048x1x32 ![0, 0, 0, 32] T slices_S8x2048x1x64_S8x2048x1x32_0_0_0_32) (broadcastInDim S8x2048x1x32 ![0, 1, 2, 3] bcast_S1x2048x1x32_S8x2048x1x32_0_1_2_3 N))⟩,
     ⟨S8x2048x1x32, addf (mulf (extractStridedSlice S8x2048x1x32 ![0, 0, 0, 32] T slices_S8x2048x1x64_S8x2048x1x32_0_0_0_32) (broadcastInDim S8x2048x1x32 ![0, 1, 2, 3] bcast_S1x2048x1x32_S8x2048x1x32_0_1_2_3 C))
      (mulf (extractStridedSlice S8x2048x1x32 ![0, 0, 0, 0] T slices_S8x2048x1x64_S8x2048x1x32_0_0_0_0) (broadcastInDim S8x2048x1x32 ![0, 1, 2, 3] bcast_S1x2048x1x32_S8x2048x1x32_0_1_2_3 N))⟩]
    concatenates_S8x2048x1x32_S8x2048x1x32_S8x2048x1x64_d3

/-- The turned head. -/
def rope1 (P : FVec Ideal S8x2048x4444 .f32) : FVec Ideal S16384x64 .f32 :=
  shapeCast _ (turned1 (heads1 P) (table (Host.cos ang)) (table (Host.sin ang))) shapeCasts_S8x2048x1x64_S16384x64

/-- An element of the projection. -/
theorem PROJ_at (X : FVec Ideal S16384x1024 .f32) (g : FVec Ideal S1024 .f32) (W : FVec Ideal S1024x4444 .f32) (b : Fin 8) (l : Fin 2048) (e : Fin 4444) :
    PROJ X g W (ix3 b l e) = prj (fun c => X (ix2 ⟨b * 2048 + l, by omega⟩ c)) (fun c => g (ix1 c)) (fun i => W (ix2 i e)) := by
  pointwise [PROJ, proj, normed, toks]
  rfl

/-- An element of 128 columns. -/
theorem cut128_at (P : FVec Ideal S8x2048x4444 .f32) (o : ℕ) (h : S8x2048x4444.Slices ![0, 0, o] S8x2048x128) (ho : o ≤ 4316) (r : Fin 16384) (c : Fin 128) :
    cut128 P o h (ix2 r c) = P (ix3 ⟨r / 2048, by omega⟩ ⟨r % 2048, by omega⟩ ⟨o + c, by omega⟩) := by
  pointwise [cut128]

/-- An element of the scaled columns. -/
theorem scaled128_at (P : FVec Ideal S8x2048x4444 .f32) (r : Fin 16384) (c : Fin 128) :
    scaled128 P (ix2 r c) = P (ix3 ⟨r / 2048, by omega⟩ ⟨r % 2048, by omega⟩ ⟨c, by omega⟩) * Ideal.ofBits .f32 0x3E3504F3#32 := by
  pointwise [scaled128]

/-- An element of 256 columns. -/
theorem cut256_at (P : FVec Ideal S8x2048x4444 .f32) (o : ℕ) (h : S8x2048x4444.Slices ![0, 0, o] S8x2048x256) (ho : o ≤ 4188) (r : Fin 16384) (c : Fin 256) :
    cut256 P o h (ix2 r c) = P (ix3 ⟨r / 2048, by omega⟩ ⟨r % 2048, by omega⟩ ⟨o + c, by omega⟩) := by
  pointwise [cut256]

/-- An element of 768 columns. -/
theorem cut768_at (P : FVec Ideal S8x2048x4444 .f32) (r : Fin 16384) (c : Fin 768) :
    cut768 P (ix2 r c) = P (ix3 ⟨r / 2048, by omega⟩ ⟨r % 2048, by omega⟩ ⟨1040 + c, by omega⟩) := by
  pointwise [cut768]

/-- An element of the 16 columns in 128. -/
theorem narrow16_at (P : FVec Ideal S8x2048x4444 .f32) (r : Fin 16384) (c : Fin 128) :
    narrow16 P (ix2 r c) = if h : (c : ℕ) < 16 then P (ix3 ⟨r / 2048, by omega⟩ ⟨r % 2048, by omega⟩ ⟨768 + c, by omega⟩) else 0 := by
  pointwise [narrow16, zero_word]

/-- An element of the 4 columns in 128. -/
theorem narrow4_at (P : FVec Ideal S8x2048x4444 .f32) (r : Fin 16384) (c : Fin 128) :
    narrow4 P (ix2 r c) = if h : (c : ℕ) < 4 then P (ix3 ⟨r / 2048, by omega⟩ ⟨r % 2048, by omega⟩ ⟨1808 + c, by omega⟩) else 0 := by
  pointwise [narrow4, zero_word]

/-- An element of the 8 columns in 128. -/
theorem narrow8_at (P : FVec Ideal S8x2048x4444 .f32) (r : Fin 16384) (c : Fin 128) :
    narrow8 P (ix2 r c) = if h : (c : ℕ) < 8 then P (ix3 ⟨r / 2048, by omega⟩ ⟨r % 2048, by omega⟩ ⟨4436 + c, by omega⟩) * Ideal.ofBits .f32 0x3EB504F3#32 else 0 := by
  pointwise [narrow8, zero_word]

/-- An element of a table. -/
theorem table_at (A : FVec Ideal S2048x32 .f32) (l : Fin 2048) (j : Fin 32) : table A (ix4 0 l 0 j) = A (ix2 l j) := by
  pointwise [table]

/-- An element of four turned heads. -/
theorem turned4_at (T : FVec Ideal S8x2048x4x64 .f32) (C N : FVec Ideal S1x2048x1x32 .f32) (b : Fin 8) (l : Fin 2048) (h : Fin 4) (e : Fin 64) :
    turned4 T C N (ix4 b l h e) = if k : (e : ℕ) < 32 then T (ix4 b l h e) * C (ix4 0 l 0 ⟨e, k⟩) - T (ix4 b l h ⟨32 + e, by omega⟩) * N (ix4 0 l 0 ⟨e, k⟩)
      else T (ix4 b l h e) * C (ix4 0 l 0 ⟨e - 32, by omega⟩) + T (ix4 b l h ⟨e - 32, by omega⟩) * N (ix4 0 l 0 ⟨e - 32, by omega⟩) := by
  pointwise [turned4]
  by_cases k : (e : ℕ) < 32
  · rw [dif_pos k, dif_pos k]
  · rw [dif_neg k, dif_neg k]
    have hk : (⟨32 + (e - 32), by omega⟩ : Fin 64) = e := Fin.ext (by dsimp only; omega)
    exact congrArg (fun z => z * _ + _) (congrArg (fun z => T (ix4 b l h z)) hk)

/-- An element of eight turned heads. -/
theorem turned8_at (T : FVec Ideal S8x2048x8x64 .f32) (C N : FVec Ideal S1x2048x1x32 .f32) (b : Fin 8) (l : Fin 2048) (h : Fin 8) (e : Fin 64) :
    turned8 T C N (ix4 b l h e) = if k : (e : ℕ) < 32 then T (ix4 b l h e) * C (ix4 0 l 0 ⟨e, k⟩) - T (ix4 b l h ⟨32 + e, by omega⟩) * N (ix4 0 l 0 ⟨e, k⟩)
      else T (ix4 b l h e) * C (ix4 0 l 0 ⟨e - 32, by omega⟩) + T (ix4 b l h ⟨e - 32, by omega⟩) * N (ix4 0 l 0 ⟨e - 32, by omega⟩) := by
  pointwise [turned8]
  by_cases k : (e : ℕ) < 32
  · rw [dif_pos k, dif_pos k]
  · rw [dif_neg k, dif_neg k]
    have hk : (⟨32 + (e - 32), by omega⟩ : Fin 64) = e := Fin.ext (by dsimp only; omega)
    exact congrArg (fun z => z * _ + _) (congrArg (fun z => T (ix4 b l h z)) hk)

/-- An element of one turned head. -/
theorem turned1_at (T : FVec Ideal S8x2048x1x64 .f32) (C N : FVec Ideal S1x2048x1x32 .f32) (b : Fin 8) (l : Fin 2048) (e : Fin 64) :
    turned1 T C N (ix4 b l 0 e) = if k : (e : ℕ) < 32 then T (ix4 b l 0 e) * C (ix4 0 l 0 ⟨e, k⟩) - T (ix4 b l 0 ⟨32 + e, by omega⟩) * N (ix4 0 l 0 ⟨e, k⟩)
      else T (ix4 b l 0 e) * C (ix4 0 l 0 ⟨e - 32, by omega⟩) + T (ix4 b l 0 ⟨e - 32, by omega⟩) * N (ix4 0 l 0 ⟨e - 32, by omega⟩) := by
  pointwise [turned1]
  by_cases k : (e : ℕ) < 32
  · rw [dif_pos k, dif_pos k]
  · rw [dif_neg k, dif_neg k]
    have hk : (⟨32 + (e - 32), by omega⟩ : Fin 64) = e := Fin.ext (by dsimp only; omega)
    exact congrArg (fun z => z * _ + _) (congrArg (fun z => T (ix4 b l 0 z)) hk)

/-- An element of four heads. -/
theorem heads4_at (P : FVec Ideal S8x2048x4444 .f32) (o : ℕ) (k : S8x2048x4444.Slices ![0, 0, o] S8x2048x256) (ho : o ≤ 4188)
    (b : Fin 8) (l : Fin 2048) (h : Fin 4) (e : Fin 64) : heads4 P o k (ix4 b l h e) = P (ix3 b l ⟨o + (h * 64 + e), by omega⟩) := by
  pointwise [heads4]

/-- An element of eight heads. -/
theorem heads8_at (P : FVec Ideal S8x2048x4444 .f32) (b : Fin 8) (l : Fin 2048) (h : Fin 8) (e : Fin 64) :
    heads8 P (ix4 b l h e) = P (ix3 b l ⟨3860 + (h * 64 + e), by omega⟩) := by
  pointwise [heads8]

/-- An element of one head. -/
theorem heads1_at (P : FVec Ideal S8x2048x4444 .f32) (b : Fin 8) (l : Fin 2048) (e : Fin 64) :
    heads1 P (ix4 b l 0 e) = P (ix3 b l ⟨4372 + e, by omega⟩) := by
  pointwise [heads1]

/-- An element of the four turned heads side by side. -/
theorem rope4_at (P : FVec Ideal S8x2048x4444 .f32) (o : ℕ) (k : S8x2048x4444.Slices ![0, 0, o] S8x2048x256) (ho : o ≤ 4188) (r : Fin 16384) (c : Fin 256) :
    rope4 P o k (ix2 r c) = turn c (P (ix3 ⟨r / 2048, by omega⟩ ⟨r % 2048, by omega⟩ ⟨o + c, by omega⟩))
      (P (ix3 ⟨r / 2048, by omega⟩ ⟨r % 2048, by omega⟩ ⟨o + partner c, by have := partner_lt (n := 256) rfl c.isLt; omega⟩))
      (ang (ix2 ⟨r % 2048, by omega⟩ ⟨c % 32, by omega⟩)) := by
  pointwise [rope4, turned4_at, table_at]
  unfold turn
  split_ifs with hc
  · have e1 : partner c = c + 32 := if_pos hc
    simp only [heads4_at P o k ho, e1]
    congr 4 <;> first | exact congrArg (ix2 _) (Fin.ext (by dsimp only; omega)) | exact Fin.ext (by dsimp only; omega)
  · have e1 : partner c = c - 32 := if_neg hc
    simp only [heads4_at P o k ho, e1]
    congr 4 <;> first | exact congrArg (ix2 _) (Fin.ext (by dsimp only; omega)) | exact Fin.ext (by dsimp only; omega)

/-- An element of the four turned heads, scaled, side by side. -/
theorem scaledRope4_at (P : FVec Ideal S8x2048x4444 .f32) (o : ℕ) (k : S8x2048x4444.Slices ![0, 0, o] S8x2048x256) (ho : o ≤ 4188) (r : Fin 16384) (c : Fin 256) :
    scaledRope4 P o k (ix2 r c) = rope4 P o k (ix2 r c) * Ideal.ofBits .f32 0x3E000000#32 := by
  pointwise [scaledRope4, rope4]

/-- An element of the eight turned heads, scaled, side by side. -/
theorem scaledRope8_at (P : FVec Ideal S8x2048x4444 .f32) (r : Fin 16384) (c : Fin 512) :
    scaledRope8 P (ix2 r c) = turn c (P (ix3 ⟨r / 2048, by omega⟩ ⟨r % 2048, by omega⟩ ⟨3860 + c, by omega⟩))
      (P (ix3 ⟨r / 2048, by omega⟩ ⟨r % 2048, by omega⟩ ⟨3860 + partner c, by have := partner_lt (n := 512) rfl c.isLt; omega⟩))
      (ang (ix2 ⟨r % 2048, by omega⟩ ⟨c % 32, by omega⟩)) * Ideal.ofBits .f32 0x3E000000#32 := by
  pointwise [scaledRope8, turned8_at, table_at]
  refine congrArg (· * _) ?_
  unfold turn
  split_ifs with hc
  · have e1 : partner c = c + 32 := if_pos hc
    simp only [heads8_at, e1]
    congr 4 <;> first | exact congrArg (ix2 _) (Fin.ext (by dsimp only; omega)) | exact Fin.ext (by dsimp only; omega)
  · have e1 : partner c = c - 32 := if_neg hc
    simp only [heads8_at, e1]
    congr 4 <;> first | exact congrArg (ix2 _) (Fin.ext (by dsimp only; omega)) | exact Fin.ext (by dsimp only; omega)

/-- An element of the turned head. -/
theorem rope1_at (P : FVec Ideal S8x2048x4444 .f32) (r : Fin 16384) (c : Fin 64) :
    rope1 P (ix2 r c) = turn c (P (ix3 ⟨r / 2048, by omega⟩ ⟨r % 2048, by omega⟩ ⟨4372 + c, by omega⟩))
      (P (ix3 ⟨r / 2048, by omega⟩ ⟨r % 2048, by omega⟩ ⟨4372 + partner c, by have := partner_lt (n := 64) rfl c.isLt; omega⟩))
      (ang (ix2 ⟨r % 2048, by omega⟩ ⟨c % 32, by omega⟩)) := by
  have h64 : (c : ℕ) % 64 = c := Nat.mod_eq_of_lt c.isLt
  pointwise [rope1, turned1_at, table_at]
  unfold turn
  rw [h64]
  split_ifs with hc
  · have e1 : partner c = c + 32 := if_pos (h64.symm ▸ hc)
    simp only [heads1_at, e1]
    congr 4 <;> first | exact congrArg (ix2 _) (Fin.ext (by dsimp only; omega)) | exact Fin.ext (by dsimp only; omega)
  · have e1 : partner c = c - 32 := if_neg (h64.symm ▸ hc)
    simp only [heads1_at, e1]
    congr 4 <;> first | exact congrArg (ix2 _) (Fin.ext (by dsimp only; omega)) | exact Fin.ext (by dsimp only; omega)

end Cert.InProjRefIdeal.Read

end
-- ==== Proof.InProjRun.lean ====
/- The reference's input projection runs to its nineteen parts. -/
module

public import proofs.«01_k».proof.Proof.InProjRef
public import Idealize.ShloMosaic.Lib.Claim

@[expose] public section

set_option maxRecDepth 16384

noncomputable section

namespace Cert.InProjRefIdeal.Read

open Idealize.ShloMosaic Idealize.ShloMosaic.TcCoe Idealize.SL.Sem Cert.InProjRefIdeal Cert.InProjRefIdeal.Gen

/-- The projection of the run's arguments. -/
abbrev p (m : (ℓ : Loc nD τ sig) → Buf (Elt Ideal) ℓ) (c : Dev nD) : FVec Ideal S8x2048x4444 .f32 :=
  PROJ (m ((c.tc : Thread nD τ).loc main_arg0)) (m ((c.tc : Thread nD τ).loc main_arg1)) (m ((c.tc : Thread nD τ).loc main_arg2))

/-- The reference runs and ends with its nineteen parts. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v249) = scaled128 (p m c)
      ∧ r.2.mem ((c.tc : Thread nD τ).loc main_v250) = cut128 (p m c) 128 InProjRefIdeal.Gen.slices_S8x2048x4444_S8x2048x128_0_0_128
      ∧ r.2.mem ((c.tc : Thread nD τ).loc main_v251) = cut256 (p m c) 256 InProjRefIdeal.Gen.slices_S8x2048x4444_S8x2048x256_0_0_256
      ∧ r.2.mem ((c.tc : Thread nD τ).loc main_v252) = cut256 (p m c) 512 InProjRefIdeal.Gen.slices_S8x2048x4444_S8x2048x256_0_0_512
      ∧ r.2.mem ((c.tc : Thread nD τ).loc main_v268) = narrow16 (p m c)
      ∧ r.2.mem ((c.tc : Thread nD τ).loc main_v254) = cut256 (p m c) 784 InProjRefIdeal.Gen.slices_S8x2048x4444_S8x2048x256_0_0_784
      ∧ r.2.mem ((c.tc : Thread nD τ).loc main_v255) = cut768 (p m c)
      ∧ r.2.mem ((c.tc : Thread nD τ).loc main_v269) = narrow4 (p m c)
      ∧ r.2.mem ((c.tc : Thread nD τ).loc main_v257) = scaledRope4 (p m c) 1812 InProjRefIdeal.Gen.slices_S8x2048x4444_S8x2048x256_0_0_1812
      ∧ r.2.mem ((c.tc : Thread nD τ).loc main_v258) = rope4 (p m c) 2068 InProjRefIdeal.Gen.slices_S8x2048x4444_S8x2048x256_0_0_2068
      ∧ r.2.mem ((c.tc : Thread nD τ).loc main_v259) = cut256 (p m c) 2324 InProjRefIdeal.Gen.slices_S8x2048x4444_S8x2048x256_0_0_2324
      ∧ r.2.mem ((c.tc : Thread nD τ).loc main_v260) = cut256 (p m c) 2580 InProjRefIdeal.Gen.slices_S8x2048x4444_S8x2048x256_0_0_2580
      ∧ r.2.mem ((c.tc : Thread nD τ).loc main_v261) = scaledRope4 (p m c) 2836 InProjRefIdeal.Gen.slices_S8x2048x4444_S8x2048x256_0_0_2836
      ∧ r.2.mem ((c.tc : Thread nD τ).loc main_v262) = rope4 (p m c) 3092 InProjRefIdeal.Gen.slices_S8x2048x4444_S8x2048x256_0_0_3092
      ∧ r.2.mem ((c.tc : Thread nD τ).loc main_v263) = cut256 (p m c) 3348 InProjRefIdeal.Gen.slices_S8x2048x4444_S8x2048x256_0_0_3348
      ∧ r.2.mem ((c.tc : Thread nD τ).loc main_v264) = cut256 (p m c) 3604 InProjRefIdeal.Gen.slices_S8x2048x4444_S8x2048x256_0_0_3604
      ∧ r.2.mem ((c.tc : Thread nD τ).loc main_v265) = scaledRope8 (p m c)
      ∧ r.2.mem ((c.tc : Thread nD τ).loc main_v266) = rope1 (p m c)
      ∧ r.2.mem ((c.tc : Thread nD τ).loc main_v270) = narrow8 (p m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, h6, h7, h8, h9, h10, h11, h12, h13, h14, h15, h16, h17, h18, ha⟩ := h c
    exact ⟨h0, h1, h2, h3, h4, h5, h6, h7, h8, h9, h10, h11, h12, h13, h14, h15, h16, h17, h18, ha⟩) (Value.run m ρ)

end Cert.InProjRefIdeal.Read

end
-- ==== Proof.InProjKer.lean ====
/- The kernel's input projection of a block, read at an index. -/
module

public import proofs.«01_k».proof.Proof.RowSpec
public import proofs.«01_k».proof.Proof.Gen.InProjIdeal.Frame
public import Idealize.ShloMosaic.Lib.Pipeline.ValueKit

@[expose] public section

set_option maxRecDepth 16384

noncomputable section

namespace Cert.InProjIdeal.Value

open Idealize.ShloMosaic Idealize.ShloMosaic.TcCoe Idealize.SL.Sem Cert.InProjIdeal Cert.InProjIdeal.Gen Cert.RowSpec

/-- The rotation as the kernel forms it: a column times `cs` plus its partner times `sn`. -/
def spin {n : ℕ} (hn : n % 64 = 0) (y : Fin n → EReal) (cs sn : EReal) (c : Fin n) : EReal :=
  y c * cs + y ⟨partner c, partner_lt hn c.isLt⟩ * sn

/-- The kernel's test for the first half of a head. -/
theorem half (c : Fin 512) : IntOp.cmpi .slt (IntOp.andi (BitVec.ofNat 32 c) 63#32) 32#32 = BitVec.ofBool (decide ((c : ℕ) % 64 < 32)) := by
  revert c; decide +kernel

/-- The normalized block. -/
theorem pay2_at (x : FVec Ideal S256x1024 .f32) (g : FVec Ideal S1x1024 .f32) (r : Fin 256) (c : Fin 1024) :
    k0_pay2 (F := Ideal) x g (ix2 r c) = nrm (fun c => x (ix2 r c)) (fun c => g (ix2 0 c)) c := by
  pointwise [k0_pay2]
  rfl

/-- A projection to 128 columns. -/
theorem pay7_at (H : FVec Ideal S256x1024 .bf16) (w : FVec Ideal S1024x128 .bf16) (r : Fin 256) (c : Fin 128) :
    k0_pay7 (F := Ideal) H w (ix2 r c) = ∑ i : Fin 1024, H (ix2 r i) * w (ix2 i c) := by
  pointwise [k0_pay7]

/-- A projection to 256 columns. -/
theorem pay6_at (H : FVec Ideal S256x1024 .bf16) (w : FVec Ideal S1024x256 .bf16) (r : Fin 256) (c : Fin 256) :
    k0_pay6 (F := Ideal) H w (ix2 r c) = ∑ i : Fin 1024, H (ix2 r i) * w (ix2 i c) := by
  pointwise [k0_pay6]

/-- A projection to 768 columns. -/
theorem pay9_at (H : FVec Ideal S256x1024 .bf16) (w : FVec Ideal S1024x768 .bf16) (r : Fin 256) (c : Fin 768) :
    k0_pay9 (F := Ideal) H w (ix2 r c) = ∑ i : Fin 1024, H (ix2 r i) * w (ix2 i c) := by
  pointwise [k0_pay9]

/-- A projection to 512 columns. -/
theorem pay23_at (H : FVec Ideal S256x1024 .bf16) (w : FVec Ideal S1024x512 .bf16) (r : Fin 256) (c : Fin 512) :
    k0_pay23 (F := Ideal) H w (ix2 r c) = ∑ i : Fin 1024, H (ix2 r i) * w (ix2 i c) := by
  pointwise [k0_pay23]

/-- The kernel's choice between two rotated copies of a row is the partner column. -/
theorem pick {n : ℕ} (hn : n % 64 = 0) (h5 : n ≤ 512) (y : Fin n → EReal) (c a b : Fin n)
    (ha : (c : ℕ) % 64 < 32 → (a : ℕ) = c + 32) (hb : ¬ (c : ℕ) % 64 < 32 → (b : ℕ) = c - 32) :
    Scalar.select (IntOp.cmpi .slt (IntOp.andi (BitVec.ofNat 32 c) 63#32) 32#32) (y a) (y b) = y ⟨partner c, partner_lt hn c.isLt⟩ := by
  have h := half ⟨c, by omega⟩
  dsimp only at h
  rw [h]
  by_cases hc : (c : ℕ) % 64 < 32
  · have e : a = ⟨partner c, partner_lt hn c.isLt⟩ := Fin.ext ((ha hc).trans (if_pos hc).symm)
    rw [← e, decide_eq_true hc]; rfl
  · have e : b = ⟨partner c, partner_lt hn c.isLt⟩ := Fin.ext ((hb hc).trans (if_neg hc).symm)
    rw [← e, decide_eq_false hc]; rfl

/-- 256 turned columns. -/
theorem pay20_at (Y C N : FVec Ideal S256x256 .f32) (r : Fin 256) (c : Fin 256) :
    k0_pay20 (F := Ideal) Y (iota .tc S256x256 32 [1] iota_S256x256_d1_w32) 63#32 C N (ix2 r c) =
      spin (n := 256) rfl (fun c => Y (ix2 r c)) (C (ix2 r c)) (N (ix2 r c)) c := by
  pointwise [k0_pay20]
  exact congrArg (_ + · * _) (pick (n := 256) rfl (by decide) (fun c => Y (ix2 r c)) c _ _ (by dsimp only; omega) (by dsimp only; omega))

/-- 512 turned and scaled columns. -/
theorem pay26_at (H : FVec Ideal S256x1024 .bf16) (w : FVec Ideal S1024x512 .bf16) (C N : FVec Ideal S256x512 .f32) (r : Fin 256) (c : Fin 512) :
    k0_pay26 (F := Ideal) (k0_pay23 H w) k0_pay24 (k0_pay25 H w) C N (ix2 r c) =
      spin (n := 512) rfl (fun c => k0_pay23 (F := Ideal) H w (ix2 r c)) (C (ix2 r c)) (N (ix2 r c)) c * Ideal.ofBits .f32 0x3E000000#32 := by
  pointwise [k0_pay26, k0_pay25, k0_pay24]
  exact congrArg (fun z => (_ + z * _) * _) (pick (n := 512) rfl (by decide) (fun c => k0_pay23 (F := Ideal) H w (ix2 r c)) c _ _ (by dsimp only; omega) (by dsimp only; omega))

/-- The first 64 of 128 turned columns. -/
theorem pay27_at (H : FVec Ideal S256x1024 .bf16) (w : FVec Ideal S1024x128 .bf16) (C N : FVec Ideal S256x128 .f32) (r : Fin 256) (c : Fin 64) :
    k0_pay27 (F := Ideal) H w C N (ix2 r c) =
      spin (n := 128) rfl (fun c => k0_pay7 (F := Ideal) H w (ix2 r c)) (C (ix2 r ⟨c, by omega⟩)) (N (ix2 r ⟨c, by omega⟩)) ⟨c, by omega⟩ := by
  pointwise [k0_pay27]
  have h := pick (n := 128) rfl (by decide) (fun c => ∑ i : Fin 1024, H (ix2 r i) * w (ix2 i c)) ⟨c, by omega⟩
    ⟨(c + 128 - 96) % 128, by omega⟩ ⟨(c + 128 - 32) % 128, by omega⟩ (by dsimp only; omega) (by dsimp only; omega)
  unfold spin
  simp only [pay7_at]
  exact congrArg (fun z : EReal => (∑ i : Fin 1024, H (ix2 r i) * w (ix2 i ⟨c, by omega⟩)) * C (ix2 r ⟨c, by omega⟩) + z * N (ix2 r ⟨c, by omega⟩)) h

/-- The normalized rows of a block. -/
def rows (x0 : Vec Ideal S256x1024 .f32) (x1 : Vec Ideal S1x1024 .f32) : FVec Ideal S256x1024 .bf16 := k0_pay2 (F := Ideal) (View.ld x0 r0_0) (View.ld x1 r0_1)

/-- The normalized rows at an index. -/
theorem rows_at (x0 : Vec Ideal S256x1024 .f32) (x1 : Vec Ideal S1x1024 .f32) (r : Fin 256) (c : Fin 1024) :
    rows x0 x1 (ix2 r c) = nrm (fun c => x0 (ix2 r c)) (fun c => x1 (ix2 0 c)) c := by
  rw [rows, pay2_at]
  pointwise []

/-- The projection of a block to the 128 columns from `k`. -/
theorem cols128_at (x0 : Vec Ideal S256x1024 .f32) (x1 : Vec Ideal S1x1024 .f32) (x2 : Vec Ideal S1024x4864 .bf16) (k : ℕ)
    (h : ∀ a, (![0, k] : Fin 2 → Nat) a + S1024x128.size a ≤ S1024x4864.size a) (hk : k ≤ 4736) (r : Fin 256) (c : Fin 128) :
    k0_pay7 (F := Ideal) (rows x0 x1) (View.ld x2 (Rect.unit (s := S1024x4864) ![0, k] S1024x128.size h)) (ix2 r c) =
      prj (fun c => x0 (ix2 r c)) (fun c => x1 (ix2 0 c)) (fun i => x2 (ix2 i ⟨k + c, by omega⟩)) := by
  rw [pay7_at]
  simp only [rows_at]
  pointwise []
  rfl

/-- The projection of a block to the 256 columns from `k`. -/
theorem cols256_at (x0 : Vec Ideal S256x1024 .f32) (x1 : Vec Ideal S1x1024 .f32) (x2 : Vec Ideal S1024x4864 .bf16) (k : ℕ)
    (h : ∀ a, (![0, k] : Fin 2 → Nat) a + S1024x256.size a ≤ S1024x4864.size a) (hk : k ≤ 4608) (r : Fin 256) (c : Fin 256) :
    k0_pay6 (F := Ideal) (rows x0 x1) (View.ld x2 (Rect.unit (s := S1024x4864) ![0, k] S1024x256.size h)) (ix2 r c) =
      prj (fun c => x0 (ix2 r c)) (fun c => x1 (ix2 0 c)) (fun i => x2 (ix2 i ⟨k + c, by omega⟩)) := by
  rw [pay6_at]
  simp only [rows_at]
  pointwise []
  rfl

/-- The rotation of those 256 columns. -/
theorem spins256_at (x0 : Vec Ideal S256x1024 .f32) (x1 : Vec Ideal S1x1024 .f32) (x2 : Vec Ideal S1024x4864 .bf16) (x3 x4 : Vec Ideal S256x512 .f32) (k : ℕ)
    (h : ∀ a, (![0, k] : Fin 2 → Nat) a + S1024x256.size a ≤ S1024x4864.size a) (hk : k ≤ 4608) (r : Fin 256) (c : Fin 256) :
    k0_pay14 (F := Ideal) (rows x0 x1) (View.ld x2 (Rect.unit (s := S1024x4864) ![0, k] S1024x256.size h)) (View.ld x3 r0_14) (View.ld x4 r0_14) (ix2 r c) =
      spin (n := 256) rfl (fun c => prj (fun c => x0 (ix2 r c)) (fun c => x1 (ix2 0 c)) (fun i => x2 (ix2 i ⟨k + c, by omega⟩)))
        (x3 (ix2 r ⟨c, by omega⟩)) (x4 (ix2 r ⟨c, by omega⟩)) c := by
  have e : k0_pay14 (F := Ideal) (rows x0 x1) (View.ld x2 (Rect.unit (s := S1024x4864) ![0, k] S1024x256.size h)) (View.ld x3 r0_14) (View.ld x4 r0_14) =
    k0_pay20 (F := Ideal) (k0_pay6 (F := Ideal) (rows x0 x1) (View.ld x2 (Rect.unit (s := S1024x4864) ![0, k] S1024x256.size h)))
      (iota .tc S256x256 32 [1] iota_S256x256_d1_w32) 63#32 (View.ld x3 r0_14) (View.ld x4 r0_14) := rfl
  rw [e, pay20_at]
  simp only [cols256_at x0 x1 x2 k h hk]
  pointwise []

/-- The rotation of those 256 columns, scaled. -/
theorem scaledSpins256_at (H : FVec Ideal S256x1024 .bf16) (w : FVec Ideal S1024x256 .bf16) (C N : FVec Ideal S256x256 .f32) (r : Fin 256) (c : Fin 256) :
    k0_pay18 (F := Ideal) H w C N (ix2 r c) = k0_pay14 (F := Ideal) H w C N (ix2 r c) * Ideal.ofBits .f32 0x3E000000#32 := rfl

/-- The 768 columns of a block. -/
theorem block11_at (x0 : Vec Ideal S256x1024 .f32) (x1 : Vec Ideal S1x1024 .f32) (x2 : Vec Ideal S1024x4864 .bf16) (x3 x4 : Vec Ideal S256x512 .f32) (r : Fin 256) (c : Fin 768) :
    out0_11 x0 x1 x2 x3 x4 (ix2 r c) = prj (fun c => x0 (ix2 r c)) (fun c => x1 (ix2 0 c)) (fun i => x2 (ix2 i ⟨1152 + c, by omega⟩)) := by
  rw [out0_11, View.canon_unit_zero (by decide)]
  show k0_pay9 (F := Ideal) (rows x0 x1) _ _ = _
  rw [pay9_at]
  simp only [rows_at]
  pointwise []
  rfl

/-- The 512 turned columns of a block. -/
theorem block21_at (x0 : Vec Ideal S256x1024 .f32) (x1 : Vec Ideal S1x1024 .f32) (x2 : Vec Ideal S1024x4864 .bf16) (x3 x4 : Vec Ideal S256x512 .f32) (r : Fin 256) (c : Fin 512) :
    out0_21 x0 x1 x2 x3 x4 (ix2 r c) =
      spin (n := 512) rfl (fun c => prj (fun c => x0 (ix2 r c)) (fun c => x1 (ix2 0 c)) (fun i => x2 (ix2 i ⟨4096 + c, by omega⟩)))
        (x3 (ix2 r c)) (x4 (ix2 r c)) c * Ideal.ofBits .f32 0x3E000000#32 := by
  rw [out0_21, View.canon_unit_zero (by decide), pay26_at]
  show spin _ (fun c => k0_pay23 (F := Ideal) (rows x0 x1) _ _) _ _ _ * _ = _
  simp only [pay23_at, rows_at]
  pointwise []
  rfl

/-- The 64 turned columns of a block. -/
theorem block22_at (x0 : Vec Ideal S256x1024 .f32) (x1 : Vec Ideal S1x1024 .f32) (x2 : Vec Ideal S1024x4864 .bf16) (x3 x4 : Vec Ideal S256x512 .f32) (r : Fin 256) (c : Fin 64) :
    out0_22 x0 x1 x2 x3 x4 (ix2 r c) =
      spin (n := 128) rfl (fun c => prj (fun c => x0 (ix2 r c)) (fun c => x1 (ix2 0 c)) (fun i => x2 (ix2 i ⟨4608 + c, by omega⟩)))
        (x3 (ix2 r ⟨c, by omega⟩)) (x4 (ix2 r ⟨c, by omega⟩)) ⟨c, by omega⟩ := by
  rw [out0_22, View.canon_unit_zero (by decide), pay27_at]
  show spin _ (fun c => k0_pay7 (F := Ideal) (rows x0 x1) _ _) _ _ _ = _
  simp only [cols128_at x0 x1 x2 4608 inb_S1024x4864_S1024x128_0_4608 (by decide)]
  pointwise []

end Cert.InProjIdeal.Value

end
-- ==== Proof.InProjHost.lean ====
/- The kernel's host side: the weights' columns laid out for the blocks, and the rotary tables. -/
module

public import proofs.«01_k».proof.Proof.RowSpec
public import proofs.«01_k».proof.Proof.InProjRef
public import proofs.«01_k».proof.Proof.Gen.InProjIdeal.Frame
public import Idealize.ShloMosaic.Lib.Pipeline.ValueKit

@[expose] public section

set_option maxRecDepth 16384

noncomputable section

namespace Cert.InProjIdeal.Value

open Idealize.ShloMosaic Idealize.ShloMosaic.TcCoe Idealize.SL.Sem Cert.InProjIdeal Cert.InProjIdeal.Gen Cert.RowSpec
open Idealize.ShloMosaic.Pipeline (Dat)

/-- The number that fills the added columns. -/
def zero : FVec Ideal S_ .f32 := sitofp .f32 (constantI S_ 32 0#32)

/-- The 128 columns of the projection from `o`, none added. -/
def full128 (W : FVec Ideal S1024x4444 .f32) (o : ℕ) (h : S1024x4444.Slices ![0, o] S1024x128) : FVec Ideal S1024x128 .f32 :=
  pad S1024x128 ![0, 0] ![0, 0] ![0, 0] (extractStridedSlice S1024x128 ![0, o] W h) zero pads_S1024x128_S1024x128_000_000 h_S_

/-- The 256 columns of the projection from `o`, none added. -/
def full256 (W : FVec Ideal S1024x4444 .f32) (o : ℕ) (h : S1024x4444.Slices ![0, o] S1024x256) : FVec Ideal S1024x256 .f32 :=
  pad S1024x256 ![0, 0] ![0, 0] ![0, 0] (extractStridedSlice S1024x256 ![0, o] W h) zero pads_S1024x256_S1024x256_000_000 h_S_

/-- The 512 columns of the projection from `o`, none added. -/
def full512 (W : FVec Ideal S1024x4444 .f32) (o : ℕ) (h : S1024x4444.Slices ![0, o] S1024x512) : FVec Ideal S1024x512 .f32 :=
  pad S1024x512 ![0, 0] ![0, 0] ![0, 0] (extractStridedSlice S1024x512 ![0, o] W h) zero pads_S1024x512_S1024x512_000_000 h_S_

/-- The 768 columns of the projection from `o`, none added. -/
def full768 (W : FVec Ideal S1024x4444 .f32) (o : ℕ) (h : S1024x4444.Slices ![0, o] S1024x768) : FVec Ideal S1024x768 .f32 :=
  pad S1024x768 ![0, 0] ![0, 0] ![0, 0] (extractStridedSlice S1024x768 ![0, o] W h) zero pads_S1024x768_S1024x768_000_000 h_S_

/-- The 16 columns of the projection from 768, widened to 128. -/
def part16 (W : FVec Ideal S1024x4444 .f32) : FVec Ideal S1024x128 .f32 :=
  pad S1024x128 ![0, 0] ![0, 112] ![0, 0] (extractStridedSlice S1024x16 ![0, 768] W slices_S1024x4444_S1024x16_0_768) zero pads_S1024x16_S1024x128_000_01120 h_S_

/-- The 4 columns of the projection from 1808, widened to 128. -/
def part4 (W : FVec Ideal S1024x4444 .f32) : FVec Ideal S1024x128 .f32 :=
  pad S1024x128 ![0, 0] ![0, 124] ![0, 0] (extractStridedSlice S1024x4 ![0, 1808] W slices_S1024x4444_S1024x4_0_1808) zero pads_S1024x4_S1024x128_000_01240 h_S_

/-- The 64 columns of the projection from 4372, widened to 128. -/
def part64 (W : FVec Ideal S1024x4444 .f32) : FVec Ideal S1024x128 .f32 :=
  pad S1024x128 ![0, 0] ![0, 64] ![0, 0] (extractStridedSlice S1024x64 ![0, 4372] W slices_S1024x4444_S1024x64_0_4372) zero pads_S1024x64_S1024x128_000_0640 h_S_

/-- The 8 columns of the projection from 4436, widened to 128. -/
def part8 (W : FVec Ideal S1024x4444 .f32) : FVec Ideal S1024x128 .f32 :=
  pad S1024x128 ![0, 0] ![0, 120] ![0, 0] (extractStridedSlice S1024x8 ![0, 4436] W slices_S1024x4444_S1024x8_0_4436) zero pads_S1024x8_S1024x128_000_01200 h_S_

/-- The first sixteen parts' columns, each widened to whole tiles. -/
def pieces (W : FVec Ideal S1024x4444 .f32) : List ((s : Shape) × (s.Idx → EReal)) :=
    [⟨S1024x128, full128 W 0 slices_S1024x4444_S1024x128_0_0⟩,
     ⟨S1024x128, full128 W 128 slices_S1024x4444_S1024x128_0_128⟩,
     ⟨S1024x256, full256 W 256 slices_S1024x4444_S1024x256_0_256⟩,
     ⟨S1024x256, full256 W 512 slices_S1024x4444_S1024x256_0_512⟩,
     ⟨S1024x128, part16 W⟩,
     ⟨S1024x256, full256 W 784 slices_S1024x4444_S1024x256_0_784⟩,
     ⟨S1024x768, full768 W 1040 slices_S1024x4444_S1024x768_0_1040⟩,
     ⟨S1024x128, part4 W⟩,
     ⟨S1024x256, full256 W 1812 slices_S1024x4444_S1024x256_0_1812⟩,
     ⟨S1024x256, full256 W 2068 slices_S1024x4444_S1024x256_0_2068⟩,
     ⟨S1024x256, full256 W 2324 slices_S1024x4444_S1024x256_0_2324⟩,
     ⟨S1024x256, full256 W 2580 slices_S1024x4444_S1024x256_0_2580⟩,
     ⟨S1024x256, full256 W 2836 slices_S1024x4444_S1024x256_0_2836⟩,
     ⟨S1024x256, full256 W 3092 slices_S1024x4444_S1024x256_0_3092⟩,
     ⟨S1024x256, full256 W 3348 slices_S1024x4444_S1024x256_0_3348⟩,
     ⟨S1024x256, full256 W 3604 slices_S1024x4444_S1024x256_0_3604⟩]

/-- They lie side by side. -/
def left (W : FVec Ideal S1024x4444 .f32) : FVec Ideal S1024x4096 .f32 :=
  concatenate S1024x4096 1 (pieces W) concatenates_S1024x128_S1024x128_S1024x256_S1024x256_S1024x128_S1024x256_S1024x768_S1024x128_S1024x256_S1024x256_S1024x256_S1024x256_S1024x256_S1024x256_S1024x256_S1024x256_S1024x4096_d1

/-- The last three parts' columns, each widened to whole tiles. -/
def right (W : FVec Ideal S1024x4444 .f32) : FVec Ideal S1024x768 .f32 :=
  concatenate S1024x768 1
    [⟨S1024x512, full512 W 3860 slices_S1024x4444_S1024x512_0_3860⟩, ⟨S1024x128, part64 W⟩, ⟨S1024x128, part8 W⟩] concatenates_S1024x512_S1024x128_S1024x128_S1024x768_d1

/-- All the columns. -/
def laid (W : FVec Ideal S1024x4444 .f32) : FVec Ideal S1024x4864 .bf16 :=
  truncf .bf16 (concatenate S1024x4864 1 [⟨S1024x4096, left W⟩, ⟨S1024x768, right W⟩] concatenates_S1024x4096_S1024x768_S1024x4864_d1) bitsLt_bf16_f32

/-- Two tables of the positions and frequencies, side by side in every head. -/
def wide (A B : FVec Ideal S2048x32 .f32) : FVec Ideal S2048x512 .f32 :=
  shapeCast S2048x512 (broadcastInDim S1x2048x8x64 ![0, 1, 2, 3] bcast_S1x2048x1x64_S1x2048x8x64_0_1_2_3
    (shapeCast S1x2048x1x64 (concatenate S2048x64 1 [⟨S2048x32, A⟩, ⟨S2048x32, B⟩] concatenates_S2048x32_S2048x32_S2048x64_d1) shapeCasts_S2048x64_S1x2048x1x64))
    shapeCasts_S1x2048x8x64_S2048x512

/-- An element of the two tables. -/
theorem wide_at (A B : FVec Ideal S2048x32 .f32) (l : Fin 2048) (e : Fin 512) :
    wide A B (ix2 l e) = if (e : ℕ) % 64 < 32 then A (ix2 l ⟨e % 32, by omega⟩) else B (ix2 l ⟨e % 32, by omega⟩) := by
  pointwise [wide]
  by_cases h : (e : ℕ) % 64 < 32
  · rw [dif_pos h, if_pos h]
    exact congrArg (fun z => A (ix2 l z)) (Fin.ext (by dsimp only; omega))
  · rw [dif_neg h, if_neg h]
    exact congrArg (fun z => B (ix2 l z)) (Fin.ext (by dsimp only; omega))

/-- An element of 128 columns. -/
theorem full128_at (W : FVec Ideal S1024x4444 .f32) (o : ℕ) (h : S1024x4444.Slices ![0, o] S1024x128) (ho : o ≤ 4316) (i : Fin 1024) (e : Fin 128) :
    full128 W o h (ix2 i e) = W (ix2 i ⟨o + e, by omega⟩) := by
  pointwise [full128]

/-- An element of 256 columns. -/
theorem full256_at (W : FVec Ideal S1024x4444 .f32) (o : ℕ) (h : S1024x4444.Slices ![0, o] S1024x256) (ho : o ≤ 4188) (i : Fin 1024) (e : Fin 256) :
    full256 W o h (ix2 i e) = W (ix2 i ⟨o + e, by omega⟩) := by
  pointwise [full256]

/-- An element of 512 columns. -/
theorem full512_at (W : FVec Ideal S1024x4444 .f32) (o : ℕ) (h : S1024x4444.Slices ![0, o] S1024x512) (ho : o ≤ 3932) (i : Fin 1024) (e : Fin 512) :
    full512 W o h (ix2 i e) = W (ix2 i ⟨o + e, by omega⟩) := by
  pointwise [full512]

/-- An element of 768 columns. -/
theorem full768_at (W : FVec Ideal S1024x4444 .f32) (o : ℕ) (h : S1024x4444.Slices ![0, o] S1024x768) (ho : o ≤ 3676) (i : Fin 1024) (e : Fin 768) :
    full768 W o h (ix2 i e) = W (ix2 i ⟨o + e, by omega⟩) := by
  pointwise [full768]

/-- An element of the 16 columns widened. -/
theorem part16_at (W : FVec Ideal S1024x4444 .f32) (i : Fin 1024) (e : Fin 128) :
    part16 W (ix2 i e) = if h : (e : ℕ) < 16 then W (ix2 i ⟨768 + e, by omega⟩) else 0 := by
  pointwise [part16, zero, zero_word]

/-- An element of the 4 columns widened. -/
theorem part4_at (W : FVec Ideal S1024x4444 .f32) (i : Fin 1024) (e : Fin 128) :
    part4 W (ix2 i e) = if h : (e : ℕ) < 4 then W (ix2 i ⟨1808 + e, by omega⟩) else 0 := by
  pointwise [part4, zero, zero_word]

/-- An element of the 64 columns widened. -/
theorem part64_at (W : FVec Ideal S1024x4444 .f32) (i : Fin 1024) (e : Fin 128) :
    part64 W (ix2 i e) = if h : (e : ℕ) < 64 then W (ix2 i ⟨4372 + e, by omega⟩) else 0 := by
  pointwise [part64, zero, zero_word]

/-- An element of the 8 columns widened. -/
theorem part8_at (W : FVec Ideal S1024x4444 .f32) (i : Fin 1024) (e : Fin 128) :
    part8 W (ix2 i e) = if h : (e : ℕ) < 8 then W (ix2 i ⟨4436 + e, by omega⟩) else 0 := by
  pointwise [part8, zero, zero_word]

/-- The shapes of the first sixteen parts. -/
def shapes : List Shape :=
  [S1024x128, S1024x128, S1024x256, S1024x256, S1024x128, S1024x256, S1024x768, S1024x128, S1024x256, S1024x256, S1024x256, S1024x256, S1024x256, S1024x256, S1024x256, S1024x256]

/-- The columns that parts take together. -/
def width (l : List Shape) : ℕ :=
  (l.map fun s => if h : s.rank = S1024x4096.rank then s.size ((1 : Fin 2).cast h.symm) else 0).sum

/-- Where part `k` of the first sixteen begins. -/
abbrev offset (k : ℕ) : ℕ := width (shapes.take k)

/-- An element of piece `k` of the first sixteen, `pre` columns in. -/
theorem left_at (W : FVec Ideal S1024x4444 .f32) (k : ℕ) (hk : k < 16) (n : ℕ) (x : (Shape.mk 2 ![1024, n]).Idx → EReal) (hx : (pieces W)[k] = ⟨_, x⟩)
    (pre : ℕ) (hpre : offset k = pre) (i : Fin 1024) (e : Fin n) (he : pre + e < 4096) : left W (ix2 i ⟨pre + e, he⟩) = x (ix2 i e) := by
  have h : width (((pieces W).take k).map (·.1)) = pre := by
    rw [List.map_take]
    exact hpre
  exact concatenate_apply_piece (t := S1024x4096) 1 (pieces W) _ _ k hk _ x hx rfl pre h (ix2 i e)
    (fun b hb => by match b, hb with | 0, _ => rfl | 1, hb => exact absurd rfl hb) rfl

/-- A column of the first 4096. -/
theorem laid_left (W : FVec Ideal S1024x4444 .f32) (i : Fin 1024) (e : ℕ) (h : e < 4096) : laid W (ix2 i ⟨e, by omega⟩) = left W (ix2 i ⟨e, h⟩) := by
  pointwise [laid]
  rw [dif_pos h]

/-- A column of the last 768. -/
theorem laid_right (W : FVec Ideal S1024x4444 .f32) (i : Fin 1024) (e : ℕ) (h : e < 768) : laid W (ix2 i ⟨4096 + e, by omega⟩) = right W (ix2 i ⟨e, h⟩) := by
  pointwise [laid]

/-- A column of the last three parts. -/
theorem right_at (W : FVec Ideal S1024x4444 .f32) (i : Fin 1024) (e : Fin 768) :
    right W (ix2 i e) = if h : (e : ℕ) < 512 then full512 W 3860 slices_S1024x4444_S1024x512_0_3860 (ix2 i ⟨e, h⟩)
      else if h' : (e : ℕ) - 512 < 128 then part64 W (ix2 i ⟨e - 512, h'⟩) else part8 W (ix2 i ⟨e - 512 - 128, by omega⟩) := by
  pointwise [right]

/-- The laid out columns of a part of 256. -/
theorem laid256 (W : FVec Ideal S1024x4444 .f32) (k : ℕ) (hk : k < 16) (o : ℕ) (h : S1024x4444.Slices ![0, o] S1024x256) (ho : o ≤ 4188)
    (hx : (pieces W)[k] = ⟨S1024x256, full256 W o h⟩)
    (pre : ℕ) (hpre : offset k = pre)
    (hp : pre ≤ 3840) (i : Fin 1024) (e : Fin 256) : laid W (ix2 i ⟨pre + e, by omega⟩) = W (ix2 i ⟨o + e, by omega⟩) := by
  rw [laid_left W i (pre + e) (by omega), left_at W k hk 256 _ hx pre hpre, full256_at W o h ho]

/-- The laid out columns of a part of 128. -/
theorem laid128 (W : FVec Ideal S1024x4444 .f32) (k : ℕ) (hk : k < 16) (o : ℕ) (h : S1024x4444.Slices ![0, o] S1024x128) (ho : o ≤ 4316)
    (hx : (pieces W)[k] = ⟨S1024x128, full128 W o h⟩)
    (pre : ℕ) (hpre : offset k = pre)
    (hp : pre ≤ 3968) (i : Fin 1024) (e : Fin 128) : laid W (ix2 i ⟨pre + e, by omega⟩) = W (ix2 i ⟨o + e, by omega⟩) := by
  rw [laid_left W i (pre + e) (by omega), left_at W k hk 128 _ hx pre hpre, full128_at W o h ho]

/-- The laid out columns of the part of 768. -/
theorem laid768 (W : FVec Ideal S1024x4444 .f32) (i : Fin 1024) (e : Fin 768) : laid W (ix2 i ⟨1152 + e, by omega⟩) = W (ix2 i ⟨1040 + e, by omega⟩) := by
  rw [laid_left W i (1152 + e) (by omega), left_at W 6 (by decide) 768 _ rfl 1152 (by decide +kernel), full768_at W 1040 _ (by decide)]

/-- The laid out columns of the part of 16. -/
theorem laid16 (W : FVec Ideal S1024x4444 .f32) (i : Fin 1024) (e : Fin 128) :
    laid W (ix2 i ⟨768 + e, by omega⟩) = if h : (e : ℕ) < 16 then W (ix2 i ⟨768 + e, by omega⟩) else 0 := by
  rw [laid_left W i (768 + e) (by omega), left_at W 4 (by decide) 128 _ rfl 768 (by decide +kernel), part16_at]

/-- The laid out columns of the part of 4. -/
theorem laid4 (W : FVec Ideal S1024x4444 .f32) (i : Fin 1024) (e : Fin 128) :
    laid W (ix2 i ⟨1920 + e, by omega⟩) = if h : (e : ℕ) < 4 then W (ix2 i ⟨1808 + e, by omega⟩) else 0 := by
  rw [laid_left W i (1920 + e) (by omega), left_at W 7 (by decide) 128 _ rfl 1920 (by decide +kernel), part4_at]

/-- The laid out columns of the part of 512. -/
theorem laid512 (W : FVec Ideal S1024x4444 .f32) (i : Fin 1024) (e : Fin 512) : laid W (ix2 i ⟨4096 + e, by omega⟩) = W (ix2 i ⟨3860 + e, by omega⟩) := by
  rw [laid_right W i e (by omega), right_at, dif_pos e.isLt, full512_at W 3860 _ (by decide)]

/-- The laid out columns of the part of 64. -/
theorem laid64 (W : FVec Ideal S1024x4444 .f32) (i : Fin 1024) (e : Fin 64) : laid W (ix2 i ⟨4608 + e, by omega⟩) = W (ix2 i ⟨4372 + e, by omega⟩) := by
  have h := laid_right W i (512 + e) (by omega)
  rw [right_at, dif_neg (by dsimp only; omega), dif_pos (by dsimp only; omega), part64_at, dif_pos (by dsimp only; omega)] at h
  refine Eq.trans (congrArg (fun z => laid W (ix2 i z)) (Fin.ext ?_)) (h.trans (congrArg (fun z => W (ix2 i z)) (Fin.ext ?_))) <;> dsimp only <;> omega

/-- The laid out columns of the part of 8. -/
theorem laid8 (W : FVec Ideal S1024x4444 .f32) (i : Fin 1024) (e : Fin 128) :
    laid W (ix2 i ⟨4736 + e, by omega⟩) = if h : (e : ℕ) < 8 then W (ix2 i ⟨4436 + e, by omega⟩) else 0 := by
  have h := laid_right W i (640 + e) (by omega)
  have hz : (⟨640 + (e : ℕ) - 512 - 128, by omega⟩ : Fin 128) = e := Fin.ext (by dsimp only; omega)
  rw [right_at, dif_neg (by dsimp only; omega), dif_neg (by dsimp only; omega)] at h
  refine Eq.trans (congrArg (fun z => laid W (ix2 i z)) (Fin.ext ?_)) (h.trans ((congrArg (fun z => part8 W (ix2 i z)) hz).trans (part8_at W i e)))
  dsimp only; omega

variable (m : (ℓ : Loc nD τ sig) → Buf (Elt Ideal) ℓ)

/-- The host's buffers once the parts' columns are cut and widened. -/
def mid (c : Dev nD) : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37]) (fun b => m (c, b))

/-- The rest of the host's operations run from there. -/
theorem V_eq (c : Dev nD) (b : Ref sig .tc) : V m c b = StableHlo.after hostOps0_38 (mid m c) b :=
  congrFun (StableHlo.after_append (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37]) hostOps0_38 _) _

/-- The laid out weights from the widened parts. -/
theorem tail_eq (X : Valuation τ sig (Elt Ideal)) : StableHlo.after hostOps0_38 X main_v41 =
    (truncf .bf16 (concatenate S1024x4864 1 [⟨S1024x4096, concatenate S1024x4096 1 [⟨S1024x128, (X main_v1 : FVec Ideal S1024x128 .f32)⟩, ⟨S1024x128, (X main_v3 : FVec Ideal S1024x128 .f32)⟩, ⟨S1024x256, (X main_v5 : FVec Ideal S1024x256 .f32)⟩, ⟨S1024x256, (X main_v7 : FVec Ideal S1024x256 .f32)⟩, ⟨S1024x128, (X main_v9 : FVec Ideal S1024x128 .f32)⟩, ⟨S1024x256, (X main_v11 : FVec Ideal S1024x256 .f32)⟩, ⟨S1024x768, (X main_v13 : FVec Ideal S1024x768 .f32)⟩, ⟨S1024x128, (X main_v15 : FVec Ideal S1024x128 .f32)⟩, ⟨S1024x256, (X main_v17 : FVec Ideal S1024x256 .f32)⟩, ⟨S1024x256, (X main_v19 : FVec Ideal S1024x256 .f32)⟩, ⟨S1024x256, (X main_v21 : FVec Ideal S1024x256 .f32)⟩, ⟨S1024x256, (X main_v23 : FVec Ideal S1024x256 .f32)⟩, ⟨S1024x256, (X main_v25 : FVec Ideal S1024x256 .f32)⟩, ⟨S1024x256, (X main_v27 : FVec Ideal S1024x256 .f32)⟩, ⟨S1024x256, (X main_v29 : FVec Ideal S1024x256 .f32)⟩, ⟨S1024x256, (X main_v31 : FVec Ideal S1024x256 .f32)⟩] concatenates_S1024x128_S1024x128_S1024x256_S1024x256_S1024x128_S1024x256_S1024x768_S1024x128_S1024x256_S1024x256_S1024x256_S1024x256_S1024x256_S1024x256_S1024x256_S1024x256_S1024x4096_d1⟩,
      ⟨S1024x768, concatenate S1024x768 1 [⟨S1024x512, (X main_v33 : FVec Ideal S1024x512 .f32)⟩, ⟨S1024x128, (X main_v35 : FVec Ideal S1024x128 .f32)⟩, ⟨S1024x128, (X main_v37 : FVec Ideal S1024x128 .f32)⟩] concatenates_S1024x512_S1024x128_S1024x128_S1024x768_d1⟩] concatenates_S1024x4096_S1024x768_S1024x4864_d1) bitsLt_bf16_f32 : FVec Ideal S1024x4864 .bf16) := rfl

/-- The cosines' table. -/
theorem cs_eq (c : Dev nD) : V m c main_v60 = wide (Host.cos InProjRefIdeal.Read.ang) (Host.cos InProjRefIdeal.Read.ang) := by
  rw [V_eq]; rfl

/-- The sines' table, negated in the first half of a head. -/
theorem sn_eq (c : Dev nD) : V m c main_v65 = wide (Host.negf (Host.sin InProjRefIdeal.Read.ang)) (Host.sin InProjRefIdeal.Read.ang) := by
  rw [V_eq]; rfl

/-- The norm's weights as one row. -/
theorem gain_eq (c : Dev nD) : V m c main_v66 = shapeCast S1x1024 (mid m c main_arg1) shapeCasts_S1024_S1x1024 := by
  rw [V_eq]; rfl

set_option maxHeartbeats 4000000 in
/-- The norm's weights are unchanged until then. -/
theorem mid_arg1 (c : Dev nD) : mid m c main_arg1 = m ((c : Thread nD τ).loc main_arg1) := rfl

set_option maxHeartbeats 4000000 in
/-- The widened parts. -/
theorem mid_eq (c : Dev nD) : mid m c main_v1 = full128 (m ((c : Thread nD τ).loc main_arg2)) 0 slices_S1024x4444_S1024x128_0_0
    ∧ mid m c main_v3 = full128 (m ((c : Thread nD τ).loc main_arg2)) 128 slices_S1024x4444_S1024x128_0_128
    ∧ mid m c main_v5 = full256 (m ((c : Thread nD τ).loc main_arg2)) 256 slices_S1024x4444_S1024x256_0_256
    ∧ mid m c main_v7 = full256 (m ((c : Thread nD τ).loc main_arg2)) 512 slices_S1024x4444_S1024x256_0_512
    ∧ mid m c main_v9 = part16 (m ((c : Thread nD τ).loc main_arg2))
    ∧ mid m c main_v11 = full256 (m ((c : Thread nD τ).loc main_arg2)) 784 slices_S1024x4444_S1024x256_0_784
    ∧ mid m c main_v13 = full768 (m ((c : Thread nD τ).loc main_arg2)) 1040 slices_S1024x4444_S1024x768_0_1040
    ∧ mid m c main_v15 = part4 (m ((c : Thread nD τ).loc main_arg2))
    ∧ mid m c main_v17 = full256 (m ((c : Thread nD τ).loc main_arg2)) 1812 slices_S1024x4444_S1024x256_0_1812
    ∧ mid m c main_v19 = full256 (m ((c : Thread nD τ).loc main_arg2)) 2068 slices_S1024x4444_S1024x256_0_2068
    ∧ mid m c main_v21 = full256 (m ((c : Thread nD τ).loc main_arg2)) 2324 slices_S1024x4444_S1024x256_0_2324
    ∧ mid m c main_v23 = full256 (m ((c : Thread nD τ).loc main_arg2)) 2580 slices_S1024x4444_S1024x256_0_2580
    ∧ mid m c main_v25 = full256 (m ((c : Thread nD τ).loc main_arg2)) 2836 slices_S1024x4444_S1024x256_0_2836
    ∧ mid m c main_v27 = full256 (m ((c : Thread nD τ).loc main_arg2)) 3092 slices_S1024x4444_S1024x256_0_3092
    ∧ mid m c main_v29 = full256 (m ((c : Thread nD τ).loc main_arg2)) 3348 slices_S1024x4444_S1024x256_0_3348
    ∧ mid m c main_v31 = full256 (m ((c : Thread nD τ).loc main_arg2)) 3604 slices_S1024x4444_S1024x256_0_3604
    ∧ mid m c main_v33 = full512 (m ((c : Thread nD τ).loc main_arg2)) 3860 slices_S1024x4444_S1024x512_0_3860
    ∧ mid m c main_v35 = part64 (m ((c : Thread nD τ).loc main_arg2))
    ∧ mid m c main_v37 = part8 (m ((c : Thread nD τ).loc main_arg2)) :=
  ⟨rfl, rfl, rfl, rfl, rfl, rfl, rfl, rfl, rfl, rfl, rfl, rfl, rfl, rfl, rfl, rfl, rfl, rfl, rfl⟩

/-- The host's laid out weights. -/
theorem laid_eq (c : Dev nD) : V m c main_v41 = laid (m ((c : Thread nD τ).loc main_arg2)) := by
  obtain ⟨h0, h1, h2, h3, h4, h5, h6, h7, h8, h9, h10, h11, h12, h13, h14, h15, h16, h17, h18⟩ := mid_eq m c
  rw [V_eq, tail_eq, h0, h1, h2, h3, h4, h5, h6, h7, h8, h9, h10, h11, h12, h13, h14, h15, h16, h17, h18]
  rfl

end Cert.InProjIdeal.Value

end
-- ==== Proof.InProjPoint.lean ====
/- What one block of the kernel's input projection holds, in the reference's terms. -/
module

public import proofs.«01_k».proof.Proof.InProjRef
public import proofs.«01_k».proof.Proof.InProjKer
public import proofs.«01_k».proof.Proof.InProjHost
public import Idealize.ShloMosaic.Lib.Pipeline.ValueKit

@[expose] public section

set_option maxRecDepth 16384

noncomputable section

namespace Cert.InProjIdeal.Value

open Idealize.ShloMosaic Idealize.ShloMosaic.TcCoe Idealize.SL.Sem Cert.InProjIdeal Cert.InProjIdeal.Gen Cert.RowSpec
open Idealize.ShloMosaic.Pipeline (Dat)

open Cert.InProjRefIdeal.Read (PROJ PROJ_at ang cut128 cut128_at scaled128 scaled128_at cut256 cut256_at cut768 cut768_at narrow16 narrow16_at narrow4 narrow4_at
  narrow8 narrow8_at rope4 rope4_at scaledRope4 scaledRope4_at scaledRope8 scaledRope8_at rope1 rope1_at)

open Cert.InProjRefIdeal (S8x2048x4444 S8x2048x256)

variable (m : (ℓ : Loc nD τ sig) → Buf (Elt Ideal) ℓ)

/-- The block each window holds at each grid point. -/
theorem idx : ∀ t : Fin cfg0.N, (win0_0.index t = ![t.val, 0] ∧ win0_1.index t = ![0, 0] ∧ win0_2.index t = ![0, 0]
    ∧ win0_3.index t = ![t.val % 8, 0] ∧ win0_4.index t = ![t.val % 8, 0])
    ∧ (win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![t.val, 0]
    ∧ win0_17.index t = ![t.val, 0] ∧ win0_18.index t = ![t.val, 0] ∧ win0_19.index t = ![t.val, 0] ∧ win0_20.index t = ![t.val, 0]
    ∧ win0_21.index t = ![t.val, 0] ∧ win0_22.index t = ![t.val, 0] ∧ win0_23.index t = ![t.val, 0]) :=
  (by decide +kernel : ∀ t : Fin grid0.N, _)

/-- There are 64 grid points. -/
theorem lt64 (t : Fin cfg0.N) : t.val < 64 := t.isLt

set_option maxHeartbeats 4000000 in
/-- The tokens are as they were given. -/
theorem x_eq (c : Dev nD) : V m c main_arg0 = m ((c : Thread nD τ).loc main_arg0) := rfl

/-- The tokens' block. -/
theorem x_at (c : Dev nD) (t : Fin cfg0.N) (r : Fin 256) (d : Fin 1024) :
    iblk m c 0 t (ix2 r d) = m ((c : Thread nD τ).loc main_arg0) (ix2 ⟨t.val * 256 + r, by have := lt64 t; omega⟩ d) := by
  rw [← x_eq m c]
  show V m c main_arg0 _ = V m c main_arg0 _
  refine congrArg _ ?_
  blk_ext [idx t]

/-- The norm's weights. -/
theorem g_at (c : Dev nD) (t : Fin cfg0.N) (d : Fin 1024) :
    iblk m c 1 t (ix2 0 d) = m ((c : Thread nD τ).loc main_arg1) (ix1 d) := by
  have h : iblk m c 1 t (ix2 0 d) = V m c main_v66 (ix2 0 d) := by
    show V m c main_v66 _ = V m c main_v66 _
    refine congrArg _ ?_
    blk_ext [idx t]
  rw [h, gain_eq, mid_arg1]
  pointwise []

/-- The weights, as they were given. -/
abbrev wIn (c : Dev nD) : FVec Ideal S1024x4444 .f32 := m ((c : Thread nD τ).loc main_arg2)

/-- The laid out weights. -/
theorem w_at (c : Dev nD) (t : Fin cfg0.N) (i : Fin 1024) (e : Fin 4864) :
    iblk m c 2 t (ix2 i e) = laid (m ((c : Thread nD τ).loc main_arg2)) (ix2 i e) := by
  rw [← laid_eq m c]
  show V m c main_v41 _ = V m c main_v41 _
  refine congrArg _ ?_
  blk_ext [idx t]

/-- The cosines' block. -/
theorem cs_at (c : Dev nD) (t : Fin cfg0.N) (r : Fin 256) (e : Fin 512) :
    iblk m c 3 t (ix2 r e) = Ideal.cos (ang (ix2 ⟨(t.val * 256 + r) % 2048, by omega⟩ ⟨e % 32, by omega⟩)) := by
  have h : iblk m c 3 t (ix2 r e) = V m c main_v60 (ix2 ⟨(t.val * 256 + r) % 2048, by omega⟩ e) := by
    show V m c main_v60 _ = V m c main_v60 _
    refine congrArg _ ?_
    blk_ext [idx t]
  rw [h, cs_eq, wide_at, ite_self]
  pointwise []

/-- The sines' block. -/
theorem sn_at (c : Dev nD) (t : Fin cfg0.N) (r : Fin 256) (e : Fin 512) :
    iblk m c 4 t (ix2 r e) = if (e : ℕ) % 64 < 32 then - Ideal.sin (ang (ix2 ⟨(t.val * 256 + r) % 2048, by omega⟩ ⟨e % 32, by omega⟩))
      else Ideal.sin (ang (ix2 ⟨(t.val * 256 + r) % 2048, by omega⟩ ⟨e % 32, by omega⟩)) := by
  have h : iblk m c 4 t (ix2 r e) = V m c main_v65 (ix2 ⟨(t.val * 256 + r) % 2048, by omega⟩ e) := by
    show V m c main_v65 _ = V m c main_v65 _
    refine congrArg _ ?_
    blk_ext [idx t]
  rw [h, sn_eq, wide_at]
  pointwise []

/-- The reference's projection over the kernel's arguments. -/
abbrev wholeProj (c : Dev nD) : FVec Ideal S8x2048x4444 .f32 :=
  PROJ (m ((c : Thread nD τ).loc main_arg0)) (m ((c : Thread nD τ).loc main_arg1)) (wIn m c)

/-- The row of a block in the whole array. -/
abbrev row (t : Fin cfg0.N) (r : Fin 256) : Fin 16384 := ⟨t.val * 256 + r, by have := lt64 t; omega⟩

/-- The reference's projection at a block's row. -/
abbrev at_ (c : Dev nD) (t : Fin cfg0.N) (r : Fin 256) (o : Fin 4444) : EReal :=
  wholeProj m c (ix3 ⟨(row t r : ℕ) / 2048, by omega⟩ ⟨(row t r : ℕ) % 2048, by omega⟩ o)

/-- A block's projection to the columns that hold column `o` is the reference's. -/
theorem prj_point (c : Dev nD) (t : Fin cfg0.N) (r : Fin 256) (k : Fin 4864) (o : Fin 4444)
    (h : ∀ i, laid (wIn m c) (ix2 i k) = wIn m c (ix2 i o)) :
    prj (fun d => iblk m c 0 t (ix2 r d)) (fun d => iblk m c 1 t (ix2 0 d)) (fun i => iblk m c 2 t (ix2 i k)) = at_ m c t r o := by
  have hr : ((⟨((row t r : ℕ) / 2048) * 2048 + (row t r : ℕ) % 2048, by have := (row t r).isLt; omega⟩ : Fin 16384)) = row t r := Fin.ext (by dsimp only; omega)
  refine Eq.trans ?_ (PROJ_at _ _ _ _ _ _).symm
  dsimp only at hr ⊢
  simp only [x_at, g_at, w_at, h, hr]

/-- A block's projection to an added column is zero. -/
theorem prj_zero (c : Dev nD) (t : Fin cfg0.N) (r : Fin 256) (k : Fin 4864)
    (h : ∀ i, laid (wIn m c) (ix2 i k) = 0) :
    prj (fun d => iblk m c 0 t (ix2 r d)) (fun d => iblk m c 1 t (ix2 0 d)) (fun i => iblk m c 2 t (ix2 i k)) = 0 := by
  simp only [prj, w_at, h, mul_zero, Finset.sum_const_zero]

/-- The kernel's rotation of two columns is the reference's. -/
theorem spin_point (c : Dev nD) (t : Fin cfg0.N) (r : Fin 256) {n : ℕ} (hn : n % 64 = 0) (y : Fin n → EReal) (e : Fin n) (he : (e : ℕ) < 512) (p q : EReal)
    (hp : y e = p) (hq : y ⟨partner e, partner_lt hn e.isLt⟩ = q) :
    spin hn y (iblk m c 3 t (ix2 r ⟨e, he⟩)) (iblk m c 4 t (ix2 r ⟨e, he⟩)) e =
      turn e p q (ang (ix2 ⟨(row t r : ℕ) % 2048, by omega⟩ ⟨e % 32, by omega⟩)) := by
  rw [spin, cs_at, sn_at, hp, hq, turn]
  split_ifs
  · rw [mul_neg, sub_eq_add_neg]
  · rfl

/-- A part of 256 columns. -/
theorem point256 (c : Dev nD) (t : Fin cfg0.N) (r : Fin 256) (e : Fin 256) (k : ℕ)
    (hb : ∀ a, (![0, k] : Fin 2 → Nat) a + S1024x256.size a ≤ S1024x4864.size a) (hk : k ≤ 4608) (o : ℕ) (h : S8x2048x4444.Slices ![0, 0, o] S8x2048x256) (ho : o ≤ 4188)
    (hw : ∀ i (e : Fin 256), laid (wIn m c) (ix2 i ⟨k + e, by omega⟩) = wIn m c (ix2 i ⟨o + e, by omega⟩)) :
    k0_pay6 (F := Ideal) (rows (iblk m c 0 t) (iblk m c 1 t)) (View.ld (iblk m c 2 t) (Rect.unit (s := S1024x4864) ![0, k] S1024x256.size hb)) (ix2 r e) =
      cut256 (wholeProj m c) o h (ix2 (row t r) e) :=
  (cols256_at _ _ _ k hb hk r e).trans ((prj_point m c t r _ _ fun i => hw i e).trans (cut256_at _ o h ho _ _).symm)

/-- A part of 128 columns. -/
theorem point128 (c : Dev nD) (t : Fin cfg0.N) (r : Fin 256) (e : Fin 128) (k : ℕ)
    (hb : ∀ a, (![0, k] : Fin 2 → Nat) a + S1024x128.size a ≤ S1024x4864.size a) (hk : k ≤ 4736) (o : ℕ) (ho : o ≤ 4316)
    (hw : ∀ i (e : Fin 128), laid (wIn m c) (ix2 i ⟨k + e, by omega⟩) = wIn m c (ix2 i ⟨o + e, by omega⟩)) :
    k0_pay7 (F := Ideal) (rows (iblk m c 0 t) (iblk m c 1 t)) (View.ld (iblk m c 2 t) (Rect.unit (s := S1024x4864) ![0, k] S1024x128.size hb)) (ix2 r e) =
      at_ m c t r ⟨o + e, by omega⟩ :=
  (cols128_at _ _ _ k hb hk r e).trans (prj_point m c t r _ _ fun i => hw i e)

/-- A part of fewer columns, in 128. -/
theorem pointNarrow (c : Dev nD) (t : Fin cfg0.N) (r : Fin 256) (e : Fin 128) (k : ℕ)
    (hb : ∀ a, (![0, k] : Fin 2 → Nat) a + S1024x128.size a ≤ S1024x4864.size a) (hk : k ≤ 4736) (o n : ℕ) (ho : o + n ≤ 4444)
    (hw : ∀ i (e : Fin 128), laid (wIn m c) (ix2 i ⟨k + e, by omega⟩) =
      if h : (e : ℕ) < n then wIn m c (ix2 i ⟨o + e, by omega⟩) else 0) :
    k0_pay7 (F := Ideal) (rows (iblk m c 0 t) (iblk m c 1 t)) (View.ld (iblk m c 2 t) (Rect.unit (s := S1024x4864) ![0, k] S1024x128.size hb)) (ix2 r e) =
      if h : (e : ℕ) < n then at_ m c t r ⟨o + e, by omega⟩ else 0 := by
  refine (cols128_at _ _ _ k hb hk r e).trans ?_
  by_cases h : (e : ℕ) < n
  · rw [dif_pos h]
    exact prj_point m c t r _ _ fun i => (hw i e).trans (dif_pos h)
  · rw [dif_neg h]
    exact prj_zero m c t r _ fun i => (hw i e).trans (dif_neg h)

/-- Four turned heads. -/
theorem pointRope (c : Dev nD) (t : Fin cfg0.N) (r : Fin 256) (e : Fin 256) (k : ℕ)
    (hb : ∀ a, (![0, k] : Fin 2 → Nat) a + S1024x256.size a ≤ S1024x4864.size a) (hk : k ≤ 4608) (o : ℕ) (h : S8x2048x4444.Slices ![0, 0, o] S8x2048x256) (ho : o ≤ 4188)
    (hw : ∀ i (e : Fin 256), laid (wIn m c) (ix2 i ⟨k + e, by omega⟩) = wIn m c (ix2 i ⟨o + e, by omega⟩)) :
    k0_pay14 (F := Ideal) (rows (iblk m c 0 t) (iblk m c 1 t)) (View.ld (iblk m c 2 t) (Rect.unit (s := S1024x4864) ![0, k] S1024x256.size hb))
      (View.ld (iblk m c 3 t) r0_14) (View.ld (iblk m c 4 t) r0_14) (ix2 r e) = rope4 (wholeProj m c) o h (ix2 (row t r) e) :=
  (spins256_at _ _ _ _ _ k hb hk r e).trans ((spin_point m c t r (n := 256) rfl _ e (by omega) _ _ (prj_point m c t r _ _ fun i => hw i e)
    (prj_point m c t r _ _ fun i => hw i ⟨partner e, _⟩)).trans (rope4_at _ o h ho _ _).symm)

/-- Four turned heads, scaled. -/
theorem pointScaledRope (c : Dev nD) (t : Fin cfg0.N) (r : Fin 256) (e : Fin 256) (k : ℕ)
    (hb : ∀ a, (![0, k] : Fin 2 → Nat) a + S1024x256.size a ≤ S1024x4864.size a) (hk : k ≤ 4608) (o : ℕ) (h : S8x2048x4444.Slices ![0, 0, o] S8x2048x256) (ho : o ≤ 4188)
    (hw : ∀ i (e : Fin 256), laid (wIn m c) (ix2 i ⟨k + e, by omega⟩) = wIn m c (ix2 i ⟨o + e, by omega⟩)) :
    k0_pay18 (F := Ideal) (rows (iblk m c 0 t) (iblk m c 1 t)) (View.ld (iblk m c 2 t) (Rect.unit (s := S1024x4864) ![0, k] S1024x256.size hb))
      (View.ld (iblk m c 3 t) r0_14) (View.ld (iblk m c 4 t) r0_14) (ix2 r e) = scaledRope4 (wholeProj m c) o h (ix2 (row t r) e) :=
  (scaledSpins256_at _ _ _ _ r e).trans ((congrArg (· * _) (pointRope m c t r e k hb hk o h ho hw)).trans (scaledRope4_at _ o h ho _ _).symm)

/-- A scale moves into the columns that are not added. -/
theorem scale_narrow (p : Prop) [Decidable p] (f : p → EReal) (s : EReal) : (if h : p then f h else 0) * s = if h : p then f h * s else 0 := by
  split_ifs
  · rfl
  · exact zero_mul s

end Cert.InProjIdeal.Value

end
-- ==== Proof.InProjValue.lean ====
/- The kernel's input projection is the reference's, part by part. -/
module

public import proofs.«01_k».proof.Proof.InProjPoint

@[expose] public section

set_option maxRecDepth 16384

noncomputable section

namespace Cert.InProjIdeal.Value

open Idealize.ShloMosaic Idealize.ShloMosaic.TcCoe Idealize.SL.Sem Cert.InProjIdeal Cert.InProjIdeal.Gen Cert.RowSpec
open Idealize.ShloMosaic.Pipeline (Dat)

open Cert.InProjRefIdeal.Read (PROJ PROJ_at ang cut128 cut128_at scaled128 scaled128_at cut256 cut256_at cut768 cut768_at narrow16 narrow16_at narrow4 narrow4_at
  narrow8 narrow8_at rope4 rope4_at scaledRope4 scaledRope4_at scaledRope8 scaledRope8_at rope1 rope1_at)

open Cert.InProjRefIdeal (S8x2048x4444 S8x2048x256)

variable (m : (ℓ : Loc nD τ sig) → Buf (Elt Ideal) ℓ)

/-- The first part's block. -/
theorem block5 (x0 : Vec Ideal S256x1024 .f32) (x1 : Vec Ideal S1x1024 .f32) (x2 : Vec Ideal S1024x4864 .bf16) (x3 x4 : Vec Ideal S256x512 .f32) :
    out0_5 x0 x1 x2 x3 x4 = fun z => k0_pay7 (F := Ideal) (rows x0 x1) (View.ld x2 (Rect.unit (s := S1024x4864) ![0, 0] S1024x128.size inb_S1024x4864_S1024x128_0_0)) z * Ideal.ofBits .f32 0x3E3504F3#32 := by
  rw [out0_5, View.canon_unit_zero (by decide)]
  rfl

/-- The second part's block. -/
theorem block6 (x0 : Vec Ideal S256x1024 .f32) (x1 : Vec Ideal S1x1024 .f32) (x2 : Vec Ideal S1024x4864 .bf16) (x3 x4 : Vec Ideal S256x512 .f32) :
    out0_6 x0 x1 x2 x3 x4 = k0_pay7 (rows x0 x1) (View.ld x2 (Rect.unit (s := S1024x4864) ![0, 128] S1024x128.size inb_S1024x4864_S1024x128_0_128)) := by
  rw [out0_6, View.canon_unit_zero (by decide)]
  rfl

/-- The third part's block. -/
theorem block7 (x0 : Vec Ideal S256x1024 .f32) (x1 : Vec Ideal S1x1024 .f32) (x2 : Vec Ideal S1024x4864 .bf16) (x3 x4 : Vec Ideal S256x512 .f32) :
    out0_7 x0 x1 x2 x3 x4 = k0_pay6 (rows x0 x1) (View.ld x2 (Rect.unit (s := S1024x4864) ![0, 256] S1024x256.size inb_S1024x4864_S1024x256_0_256)) := by
  rw [out0_7, View.canon_unit_zero (by decide)]
  rfl

/-- The fourth part's block. -/
theorem block8 (x0 : Vec Ideal S256x1024 .f32) (x1 : Vec Ideal S1x1024 .f32) (x2 : Vec Ideal S1024x4864 .bf16) (x3 x4 : Vec Ideal S256x512 .f32) :
    out0_8 x0 x1 x2 x3 x4 = k0_pay6 (rows x0 x1) (View.ld x2 (Rect.unit (s := S1024x4864) ![0, 512] S1024x256.size inb_S1024x4864_S1024x256_0_512)) := by
  rw [out0_8, View.canon_unit_zero (by decide)]
  rfl

/-- The fifth part's block. -/
theorem block9 (x0 : Vec Ideal S256x1024 .f32) (x1 : Vec Ideal S1x1024 .f32) (x2 : Vec Ideal S1024x4864 .bf16) (x3 x4 : Vec Ideal S256x512 .f32) :
    out0_9 x0 x1 x2 x3 x4 = k0_pay7 (rows x0 x1) (View.ld x2 (Rect.unit (s := S1024x4864) ![0, 768] S1024x128.size inb_S1024x4864_S1024x128_0_768)) := by
  rw [out0_9, View.canon_unit_zero (by decide)]
  rfl

/-- The sixth part's block. -/
theorem block10 (x0 : Vec Ideal S256x1024 .f32) (x1 : Vec Ideal S1x1024 .f32) (x2 : Vec Ideal S1024x4864 .bf16) (x3 x4 : Vec Ideal S256x512 .f32) :
    out0_10 x0 x1 x2 x3 x4 = k0_pay6 (rows x0 x1) (View.ld x2 (Rect.unit (s := S1024x4864) ![0, 896] S1024x256.size inb_S1024x4864_S1024x256_0_896)) := by
  rw [out0_10, View.canon_unit_zero (by decide)]
  rfl

/-- The eighth part's block. -/
theorem block12 (x0 : Vec Ideal S256x1024 .f32) (x1 : Vec Ideal S1x1024 .f32) (x2 : Vec Ideal S1024x4864 .bf16) (x3 x4 : Vec Ideal S256x512 .f32) :
    out0_12 x0 x1 x2 x3 x4 = k0_pay7 (rows x0 x1) (View.ld x2 (Rect.unit (s := S1024x4864) ![0, 1920] S1024x128.size inb_S1024x4864_S1024x128_0_1920)) := by
  rw [out0_12, View.canon_unit_zero (by decide)]
  rfl

/-- The ninth part's block. -/
theorem block13 (x0 : Vec Ideal S256x1024 .f32) (x1 : Vec Ideal S1x1024 .f32) (x2 : Vec Ideal S1024x4864 .bf16) (x3 x4 : Vec Ideal S256x512 .f32) :
    out0_13 x0 x1 x2 x3 x4 = k0_pay18 (rows x0 x1) (View.ld x2 (Rect.unit (s := S1024x4864) ![0, 2048] S1024x256.size inb_S1024x4864_S1024x256_0_2048)) (View.ld x3 r0_14) (View.ld x4 r0_14) := by
  rw [out0_13, View.canon_unit_zero (by decide)]
  rfl

/-- The tenth part's block. -/
theorem block14 (x0 : Vec Ideal S256x1024 .f32) (x1 : Vec Ideal S1x1024 .f32) (x2 : Vec Ideal S1024x4864 .bf16) (x3 x4 : Vec Ideal S256x512 .f32) :
    out0_14 x0 x1 x2 x3 x4 = k0_pay14 (rows x0 x1) (View.ld x2 (Rect.unit (s := S1024x4864) ![0, 2304] S1024x256.size inb_S1024x4864_S1024x256_0_2304)) (View.ld x3 r0_14) (View.ld x4 r0_14) := by
  rw [out0_14, View.canon_unit_zero (by decide)]
  rfl

/-- The eleventh part's block. -/
theorem block15 (x0 : Vec Ideal S256x1024 .f32) (x1 : Vec Ideal S1x1024 .f32) (x2 : Vec Ideal S1024x4864 .bf16) (x3 x4 : Vec Ideal S256x512 .f32) :
    out0_15 x0 x1 x2 x3 x4 = k0_pay6 (rows x0 x1) (View.ld x2 (Rect.unit (s := S1024x4864) ![0, 2560] S1024x256.size inb_S1024x4864_S1024x256_0_2560)) := by
  rw [out0_15, View.canon_unit_zero (by decide)]
  rfl

/-- The twelfth part's block. -/
theorem block16 (x0 : Vec Ideal S256x1024 .f32) (x1 : Vec Ideal S1x1024 .f32) (x2 : Vec Ideal S1024x4864 .bf16) (x3 x4 : Vec Ideal S256x512 .f32) :
    out0_16 x0 x1 x2 x3 x4 = k0_pay6 (rows x0 x1) (View.ld x2 (Rect.unit (s := S1024x4864) ![0, 2816] S1024x256.size inb_S1024x4864_S1024x256_0_2816)) := by
  rw [out0_16, View.canon_unit_zero (by decide)]
  rfl

/-- The thirteenth part's block. -/
theorem block17 (x0 : Vec Ideal S256x1024 .f32) (x1 : Vec Ideal S1x1024 .f32) (x2 : Vec Ideal S1024x4864 .bf16) (x3 x4 : Vec Ideal S256x512 .f32) :
    out0_17 x0 x1 x2 x3 x4 = k0_pay18 (rows x0 x1) (View.ld x2 (Rect.unit (s := S1024x4864) ![0, 3072] S1024x256.size inb_S1024x4864_S1024x256_0_3072)) (View.ld x3 r0_14) (View.ld x4 r0_14) := by
  rw [out0_17, View.canon_unit_zero (by decide)]
  rfl

/-- The fourteenth part's block. -/
theorem block18 (x0 : Vec Ideal S256x1024 .f32) (x1 : Vec Ideal S1x1024 .f32) (x2 : Vec Ideal S1024x4864 .bf16) (x3 x4 : Vec Ideal S256x512 .f32) :
    out0_18 x0 x1 x2 x3 x4 = k0_pay14 (rows x0 x1) (View.ld x2 (Rect.unit (s := S1024x4864) ![0, 3328] S1024x256.size inb_S1024x4864_S1024x256_0_3328)) (View.ld x3 r0_14) (View.ld x4 r0_14) := by
  rw [out0_18, View.canon_unit_zero (by decide)]
  rfl

/-- The fifteenth part's block. -/
theorem block19 (x0 : Vec Ideal S256x1024 .f32) (x1 : Vec Ideal S1x1024 .f32) (x2 : Vec Ideal S1024x4864 .bf16) (x3 x4 : Vec Ideal S256x512 .f32) :
    out0_19 x0 x1 x2 x3 x4 = k0_pay6 (rows x0 x1) (View.ld x2 (Rect.unit (s := S1024x4864) ![0, 3584] S1024x256.size inb_S1024x4864_S1024x256_0_3584)) := by
  rw [out0_19, View.canon_unit_zero (by decide)]
  rfl

/-- The sixteenth part's block. -/
theorem block20 (x0 : Vec Ideal S256x1024 .f32) (x1 : Vec Ideal S1x1024 .f32) (x2 : Vec Ideal S1024x4864 .bf16) (x3 x4 : Vec Ideal S256x512 .f32) :
    out0_20 x0 x1 x2 x3 x4 = k0_pay6 (rows x0 x1) (View.ld x2 (Rect.unit (s := S1024x4864) ![0, 3840] S1024x256.size inb_S1024x4864_S1024x256_0_3840)) := by
  rw [out0_20, View.canon_unit_zero (by decide)]
  rfl

/-- The nineteenth part's block. -/
theorem block23 (x0 : Vec Ideal S256x1024 .f32) (x1 : Vec Ideal S1x1024 .f32) (x2 : Vec Ideal S1024x4864 .bf16) (x3 x4 : Vec Ideal S256x512 .f32) :
    out0_23 x0 x1 x2 x3 x4 = fun z => k0_pay7 (F := Ideal) (rows x0 x1) (View.ld x2 (Rect.unit (s := S1024x4864) ![0, 4736] S1024x128.size inb_S1024x4864_S1024x128_0_4736)) z * Ideal.ofBits .f32 0x3EB504F3#32 := by
  rw [out0_23, View.canon_unit_zero (by decide)]
  rfl

/-- The first part at one point. -/
theorem point5 (c : Dev nD) (t : Fin cfg0.N) (r : Fin 256) (e : Fin 128) :
    out0_5 (iblk m c 0 t) (iblk m c 1 t) (iblk m c 2 t) (iblk m c 3 t) (iblk m c 4 t) (ix2 r e) = scaled128 (wholeProj m c) (ix2 (row t r) e) :=
  (congrFun (block5 _ _ _ _ _) _).trans ((congrArg (· * Ideal.ofBits .f32 0x3E3504F3#32) ((point128 m c t r e 0 inb_S1024x4864_S1024x128_0_0 (by decide) 0 (by decide)
    (laid128 (wIn m c) 0 (by decide) 0 _ (by decide) rfl 0 (by decide +kernel) (by decide))).trans (congrArg (at_ m c t r) (Fin.ext (Nat.zero_add _))))).trans (scaled128_at (wholeProj m c) _ _).symm)

/-- The second part at one point. -/
theorem point6 (c : Dev nD) (t : Fin cfg0.N) (r : Fin 256) (e : Fin 128) :
    out0_6 (iblk m c 0 t) (iblk m c 1 t) (iblk m c 2 t) (iblk m c 3 t) (iblk m c 4 t) (ix2 r e) = cut128 (wholeProj m c) 128 InProjRefIdeal.Gen.slices_S8x2048x4444_S8x2048x128_0_0_128 (ix2 (row t r) e) :=
  (congrFun (block6 _ _ _ _ _) _).trans ((point128 m c t r e 128 inb_S1024x4864_S1024x128_0_128 (by decide) 128 (by decide)
    (laid128 (wIn m c) 1 (by decide) 128 _ (by decide) rfl 128 (by decide +kernel) (by decide))).trans (cut128_at (wholeProj m c) 128 _ (by decide) _ _).symm)

/-- The third part at one point. -/
theorem point7 (c : Dev nD) (t : Fin cfg0.N) (r : Fin 256) (e : Fin 256) :
    out0_7 (iblk m c 0 t) (iblk m c 1 t) (iblk m c 2 t) (iblk m c 3 t) (iblk m c 4 t) (ix2 r e) = cut256 (wholeProj m c) 256 InProjRefIdeal.Gen.slices_S8x2048x4444_S8x2048x256_0_0_256 (ix2 (row t r) e) :=
  (congrFun (block7 _ _ _ _ _) _).trans (point256 m c t r e 256 inb_S1024x4864_S1024x256_0_256 (by decide) 256 _ (by decide) (laid256 (wIn m c) 2 (by decide) 256 _ (by decide) rfl 256 (by decide +kernel) (by decide)))

/-- The fourth part at one point. -/
theorem point8 (c : Dev nD) (t : Fin cfg0.N) (r : Fin 256) (e : Fin 256) :
    out0_8 (iblk m c 0 t) (iblk m c 1 t) (iblk m c 2 t) (iblk m c 3 t) (iblk m c 4 t) (ix2 r e) = cut256 (wholeProj m c) 512 InProjRefIdeal.Gen.slices_S8x2048x4444_S8x2048x256_0_0_512 (ix2 (row t r) e) :=
  (congrFun (block8 _ _ _ _ _) _).trans (point256 m c t r e 512 inb_S1024x4864_S1024x256_0_512 (by decide) 512 _ (by decide) (laid256 (wIn m c) 3 (by decide) 512 _ (by decide) rfl 512 (by decide +kernel) (by decide)))

/-- The fifth part at one point. -/
theorem point9 (c : Dev nD) (t : Fin cfg0.N) (r : Fin 256) (e : Fin 128) :
    out0_9 (iblk m c 0 t) (iblk m c 1 t) (iblk m c 2 t) (iblk m c 3 t) (iblk m c 4 t) (ix2 r e) = narrow16 (wholeProj m c) (ix2 (row t r) e) :=
  (congrFun (block9 _ _ _ _ _) _).trans ((pointNarrow m c t r e 768 inb_S1024x4864_S1024x128_0_768 (by decide) 768 16 (by decide)
    (laid16 (wIn m c))).trans (narrow16_at (wholeProj m c) _ _).symm)

/-- The sixth part at one point. -/
theorem point10 (c : Dev nD) (t : Fin cfg0.N) (r : Fin 256) (e : Fin 256) :
    out0_10 (iblk m c 0 t) (iblk m c 1 t) (iblk m c 2 t) (iblk m c 3 t) (iblk m c 4 t) (ix2 r e) = cut256 (wholeProj m c) 784 InProjRefIdeal.Gen.slices_S8x2048x4444_S8x2048x256_0_0_784 (ix2 (row t r) e) :=
  (congrFun (block10 _ _ _ _ _) _).trans (point256 m c t r e 896 inb_S1024x4864_S1024x256_0_896 (by decide) 784 _ (by decide) (laid256 (wIn m c) 5 (by decide) 784 _ (by decide) rfl 896 (by decide +kernel) (by decide)))

/-- The seventh part at one point. -/
theorem point11 (c : Dev nD) (t : Fin cfg0.N) (r : Fin 256) (e : Fin 768) :
    out0_11 (iblk m c 0 t) (iblk m c 1 t) (iblk m c 2 t) (iblk m c 3 t) (iblk m c 4 t) (ix2 r e) = cut768 (wholeProj m c) (ix2 (row t r) e) :=
  (block11_at _ _ _ _ _ r e).trans ((prj_point m c t r ⟨1152 + e, by omega⟩ ⟨1040 + e, by omega⟩ fun i => laid768 (wIn m c) i e).trans (cut768_at (wholeProj m c) _ _).symm)

/-- The eighth part at one point. -/
theorem point12 (c : Dev nD) (t : Fin cfg0.N) (r : Fin 256) (e : Fin 128) :
    out0_12 (iblk m c 0 t) (iblk m c 1 t) (iblk m c 2 t) (iblk m c 3 t) (iblk m c 4 t) (ix2 r e) = narrow4 (wholeProj m c) (ix2 (row t r) e) :=
  (congrFun (block12 _ _ _ _ _) _).trans ((pointNarrow m c t r e 1920 inb_S1024x4864_S1024x128_0_1920 (by decide) 1808 4 (by decide)
    (laid4 (wIn m c))).trans (narrow4_at (wholeProj m c) _ _).symm)

/-- The ninth part at one point. -/
theorem point13 (c : Dev nD) (t : Fin cfg0.N) (r : Fin 256) (e : Fin 256) :
    out0_13 (iblk m c 0 t) (iblk m c 1 t) (iblk m c 2 t) (iblk m c 3 t) (iblk m c 4 t) (ix2 r e) = scaledRope4 (wholeProj m c) 1812 InProjRefIdeal.Gen.slices_S8x2048x4444_S8x2048x256_0_0_1812 (ix2 (row t r) e) :=
  (congrFun (block13 _ _ _ _ _) _).trans (pointScaledRope m c t r e 2048 inb_S1024x4864_S1024x256_0_2048 (by decide) 1812 _ (by decide) (laid256 (wIn m c) 8 (by decide) 1812 _ (by decide) rfl 2048 (by decide +kernel) (by decide)))

/-- The tenth part at one point. -/
theorem point14 (c : Dev nD) (t : Fin cfg0.N) (r : Fin 256) (e : Fin 256) :
    out0_14 (iblk m c 0 t) (iblk m c 1 t) (iblk m c 2 t) (iblk m c 3 t) (iblk m c 4 t) (ix2 r e) = rope4 (wholeProj m c) 2068 InProjRefIdeal.Gen.slices_S8x2048x4444_S8x2048x256_0_0_2068 (ix2 (row t r) e) :=
  (congrFun (block14 _ _ _ _ _) _).trans (pointRope m c t r e 2304 inb_S1024x4864_S1024x256_0_2304 (by decide) 2068 _ (by decide) (laid256 (wIn m c) 9 (by decide) 2068 _ (by decide) rfl 2304 (by decide +kernel) (by decide)))

/-- The eleventh part at one point. -/
theorem point15 (c : Dev nD) (t : Fin cfg0.N) (r : Fin 256) (e : Fin 256) :
    out0_15 (iblk m c 0 t) (iblk m c 1 t) (iblk m c 2 t) (iblk m c 3 t) (iblk m c 4 t) (ix2 r e) = cut256 (wholeProj m c) 2324 InProjRefIdeal.Gen.slices_S8x2048x4444_S8x2048x256_0_0_2324 (ix2 (row t r) e) :=
  (congrFun (block15 _ _ _ _ _) _).trans (point256 m c t r e 2560 inb_S1024x4864_S1024x256_0_2560 (by decide) 2324 _ (by decide) (laid256 (wIn m c) 10 (by decide) 2324 _ (by decide) rfl 2560 (by decide +kernel) (by decide)))

/-- The twelfth part at one point. -/
theorem point16 (c : Dev nD) (t : Fin cfg0.N) (r : Fin 256) (e : Fin 256) :
    out0_16 (iblk m c 0 t) (iblk m c 1 t) (iblk m c 2 t) (iblk m c 3 t) (iblk m c 4 t) (ix2 r e) = cut256 (wholeProj m c) 2580 InProjRefIdeal.Gen.slices_S8x2048x4444_S8x2048x256_0_0_2580 (ix2 (row t r) e) :=
  (congrFun (block16 _ _ _ _ _) _).trans (point256 m c t r e 2816 inb_S1024x4864_S1024x256_0_2816 (by decide) 2580 _ (by decide) (laid256 (wIn m c) 11 (by decide) 2580 _ (by decide) rfl 2816 (by decide +kernel) (by decide)))

/-- The thirteenth part at one point. -/
theorem point17 (c : Dev nD) (t : Fin cfg0.N) (r : Fin 256) (e : Fin 256) :
    out0_17 (iblk m c 0 t) (iblk m c 1 t) (iblk m c 2 t) (iblk m c 3 t) (iblk m c 4 t) (ix2 r e) = scaledRope4 (wholeProj m c) 2836 InProjRefIdeal.Gen.slices_S8x2048x4444_S8x2048x256_0_0_2836 (ix2 (row t r) e) :=
  (congrFun (block17 _ _ _ _ _) _).trans (pointScaledRope m c t r e 3072 inb_S1024x4864_S1024x256_0_3072 (by decide) 2836 _ (by decide) (laid256 (wIn m c) 12 (by decide) 2836 _ (by decide) rfl 3072 (by decide +kernel) (by decide)))

/-- The fourteenth part at one point. -/
theorem point18 (c : Dev nD) (t : Fin cfg0.N) (r : Fin 256) (e : Fin 256) :
    out0_18 (iblk m c 0 t) (iblk m c 1 t) (iblk m c 2 t) (iblk m c 3 t) (iblk m c 4 t) (ix2 r e) = rope4 (wholeProj m c) 3092 InProjRefIdeal.Gen.slices_S8x2048x4444_S8x2048x256_0_0_3092 (ix2 (row t r) e) :=
  (congrFun (block18 _ _ _ _ _) _).trans (pointRope m c t r e 3328 inb_S1024x4864_S1024x256_0_3328 (by decide) 3092 _ (by decide) (laid256 (wIn m c) 13 (by decide) 3092 _ (by decide) rfl 3328 (by decide +kernel) (by decide)))

/-- The fifteenth part at one point. -/
theorem point19 (c : Dev nD) (t : Fin cfg0.N) (r : Fin 256) (e : Fin 256) :
    out0_19 (iblk m c 0 t) (iblk m c 1 t) (iblk m c 2 t) (iblk m c 3 t) (iblk m c 4 t) (ix2 r e) = cut256 (wholeProj m c) 3348 InProjRefIdeal.Gen.slices_S8x2048x4444_S8x2048x256_0_0_3348 (ix2 (row t r) e) :=
  (congrFun (block19 _ _ _ _ _) _).trans (point256 m c t r e 3584 inb_S1024x4864_S1024x256_0_3584 (by decide) 3348 _ (by decide) (laid256 (wIn m c) 14 (by decide) 3348 _ (by decide) rfl 3584 (by decide +kernel) (by decide)))

/-- The sixteenth part at one point. -/
theorem point20 (c : Dev nD) (t : Fin cfg0.N) (r : Fin 256) (e : Fin 256) :
    out0_20 (iblk m c 0 t) (iblk m c 1 t) (iblk m c 2 t) (iblk m c 3 t) (iblk m c 4 t) (ix2 r e) = cut256 (wholeProj m c) 3604 InProjRefIdeal.Gen.slices_S8x2048x4444_S8x2048x256_0_0_3604 (ix2 (row t r) e) :=
  (congrFun (block20 _ _ _ _ _) _).trans (point256 m c t r e 3840 inb_S1024x4864_S1024x256_0_3840 (by decide) 3604 _ (by decide) (laid256 (wIn m c) 15 (by decide) 3604 _ (by decide) rfl 3840 (by decide +kernel) (by decide)))

/-- The seventeenth part at one point. -/
theorem point21 (c : Dev nD) (t : Fin cfg0.N) (r : Fin 256) (e : Fin 512) :
    out0_21 (iblk m c 0 t) (iblk m c 1 t) (iblk m c 2 t) (iblk m c 3 t) (iblk m c 4 t) (ix2 r e) = scaledRope8 (wholeProj m c) (ix2 (row t r) e) :=
  (block21_at _ _ _ _ _ r e).trans ((congrArg (· * _) (spin_point m c t r (n := 512) rfl _ e e.isLt _ _ (prj_point m c t r _ _ fun i => laid512 (wIn m c) i e)
    (prj_point m c t r _ _ fun i => laid512 (wIn m c) i ⟨partner e, partner_lt rfl e.isLt⟩))).trans (scaledRope8_at (wholeProj m c) _ _).symm)

/-- The eighteenth part at one point. -/
theorem point22 (c : Dev nD) (t : Fin cfg0.N) (r : Fin 256) (e : Fin 64) :
    out0_22 (iblk m c 0 t) (iblk m c 1 t) (iblk m c 2 t) (iblk m c 3 t) (iblk m c 4 t) (ix2 r e) = rope1 (wholeProj m c) (ix2 (row t r) e) :=
  (block22_at _ _ _ _ _ r e).trans ((spin_point m c t r (n := 128) rfl _ ⟨e, by omega⟩ (by dsimp only; omega) _ _ (prj_point m c t r _ _ fun i => laid64 (wIn m c) i e)
    (prj_point m c t r _ _ fun i => laid64 (wIn m c) i ⟨partner e, partner_lt (n := 64) rfl e.isLt⟩)).trans (rope1_at (wholeProj m c) _ _).symm)

/-- The nineteenth part at one point. -/
theorem point23 (c : Dev nD) (t : Fin cfg0.N) (r : Fin 256) (e : Fin 128) :
    out0_23 (iblk m c 0 t) (iblk m c 1 t) (iblk m c 2 t) (iblk m c 3 t) (iblk m c 4 t) (ix2 r e) = narrow8 (wholeProj m c) (ix2 (row t r) e) :=
  (congrFun (block23 _ _ _ _ _) _).trans ((congrArg (· * Ideal.ofBits .f32 0x3EB504F3#32) (pointNarrow m c t r e 4736 inb_S1024x4864_S1024x128_0_4736 (by decide) 4436 8 (by decide)
    (laid8 (wIn m c)))).trans ((scale_narrow _ _ _).trans (narrow8_at (wholeProj m c) _ _).symm))

/-- The first part's array after the run. -/
theorem final5 (c : Dev nD) : (dats m 0 c).arrAt 5 (cfgs 0).N = scaled128 (wholeProj m c) := by
  refine (dats m 0 c).arrAt_eq_of_covers 5 _ (by decide +kernel) fun t hf y => ?_
  blk_simp; rw [after0_5]
  idx_vars y
  refine (point5 m c t _ _).trans (congrArg (scaled128 (wholeProj m c)) ?_)
  blk_ext [idx t]

/-- The second part's array after the run. -/
theorem final6 (c : Dev nD) : (dats m 0 c).arrAt 6 (cfgs 0).N = cut128 (wholeProj m c) 128 InProjRefIdeal.Gen.slices_S8x2048x4444_S8x2048x128_0_0_128 := by
  refine (dats m 0 c).arrAt_eq_of_covers 6 _ (by decide +kernel) fun t hf y => ?_
  blk_simp; rw [after0_6]
  idx_vars y
  refine (point6 m c t _ _).trans (congrArg (cut128 (wholeProj m c) 128 InProjRefIdeal.Gen.slices_S8x2048x4444_S8x2048x128_0_0_128) ?_)
  blk_ext [idx t]

/-- The third part's array after the run. -/
theorem final7 (c : Dev nD) : (dats m 0 c).arrAt 7 (cfgs 0).N = cut256 (wholeProj m c) 256 InProjRefIdeal.Gen.slices_S8x2048x4444_S8x2048x256_0_0_256 := by
  refine (dats m 0 c).arrAt_eq_of_covers 7 _ (by decide +kernel) fun t hf y => ?_
  blk_simp; rw [after0_7]
  idx_vars y
  refine (point7 m c t _ _).trans (congrArg (cut256 (wholeProj m c) 256 InProjRefIdeal.Gen.slices_S8x2048x4444_S8x2048x256_0_0_256) ?_)
  blk_ext [idx t]

/-- The fourth part's array after the run. -/
theorem final8 (c : Dev nD) : (dats m 0 c).arrAt 8 (cfgs 0).N = cut256 (wholeProj m c) 512 InProjRefIdeal.Gen.slices_S8x2048x4444_S8x2048x256_0_0_512 := by
  refine (dats m 0 c).arrAt_eq_of_covers 8 _ (by decide +kernel) fun t hf y => ?_
  blk_simp; rw [after0_8]
  idx_vars y
  refine (point8 m c t _ _).trans (congrArg (cut256 (wholeProj m c) 512 InProjRefIdeal.Gen.slices_S8x2048x4444_S8x2048x256_0_0_512) ?_)
  blk_ext [idx t]

/-- The fifth part's array after the run. -/
theorem final9 (c : Dev nD) : (dats m 0 c).arrAt 9 (cfgs 0).N = narrow16 (wholeProj m c) := by
  refine (dats m 0 c).arrAt_eq_of_covers 9 _ (by decide +kernel) fun t hf y => ?_
  blk_simp; rw [after0_9]
  idx_vars y
  refine (point9 m c t _ _).trans (congrArg (narrow16 (wholeProj m c)) ?_)
  blk_ext [idx t]

/-- The sixth part's array after the run. -/
theorem final10 (c : Dev nD) : (dats m 0 c).arrAt 10 (cfgs 0).N = cut256 (wholeProj m c) 784 InProjRefIdeal.Gen.slices_S8x2048x4444_S8x2048x256_0_0_784 := by
  refine (dats m 0 c).arrAt_eq_of_covers 10 _ (by decide +kernel) fun t hf y => ?_
  blk_simp; rw [after0_10]
  idx_vars y
  refine (point10 m c t _ _).trans (congrArg (cut256 (wholeProj m c) 784 InProjRefIdeal.Gen.slices_S8x2048x4444_S8x2048x256_0_0_784) ?_)
  blk_ext [idx t]

/-- The seventh part's array after the run. -/
theorem final11 (c : Dev nD) : (dats m 0 c).arrAt 11 (cfgs 0).N = cut768 (wholeProj m c) := by
  refine (dats m 0 c).arrAt_eq_of_covers 11 _ (by decide +kernel) fun t hf y => ?_
  blk_simp; rw [after0_11]
  idx_vars y
  refine (point11 m c t _ _).trans (congrArg (cut768 (wholeProj m c)) ?_)
  blk_ext [idx t]

/-- The eighth part's array after the run. -/
theorem final12 (c : Dev nD) : (dats m 0 c).arrAt 12 (cfgs 0).N = narrow4 (wholeProj m c) := by
  refine (dats m 0 c).arrAt_eq_of_covers 12 _ (by decide +kernel) fun t hf y => ?_
  blk_simp; rw [after0_12]
  idx_vars y
  refine (point12 m c t _ _).trans (congrArg (narrow4 (wholeProj m c)) ?_)
  blk_ext [idx t]

/-- The ninth part's array after the run. -/
theorem final13 (c : Dev nD) : (dats m 0 c).arrAt 13 (cfgs 0).N = scaledRope4 (wholeProj m c) 1812 InProjRefIdeal.Gen.slices_S8x2048x4444_S8x2048x256_0_0_1812 := by
  refine (dats m 0 c).arrAt_eq_of_covers 13 _ (by decide +kernel) fun t hf y => ?_
  blk_simp; rw [after0_13]
  idx_vars y
  refine (point13 m c t _ _).trans (congrArg (scaledRope4 (wholeProj m c) 1812 InProjRefIdeal.Gen.slices_S8x2048x4444_S8x2048x256_0_0_1812) ?_)
  blk_ext [idx t]

/-- The tenth part's array after the run. -/
theorem final14 (c : Dev nD) : (dats m 0 c).arrAt 14 (cfgs 0).N = rope4 (wholeProj m c) 2068 InProjRefIdeal.Gen.slices_S8x2048x4444_S8x2048x256_0_0_2068 := by
  refine (dats m 0 c).arrAt_eq_of_covers 14 _ (by decide +kernel) fun t hf y => ?_
  blk_simp; rw [after0_14]
  idx_vars y
  refine (point14 m c t _ _).trans (congrArg (rope4 (wholeProj m c) 2068 InProjRefIdeal.Gen.slices_S8x2048x4444_S8x2048x256_0_0_2068) ?_)
  blk_ext [idx t]

/-- The eleventh part's array after the run. -/
theorem final15 (c : Dev nD) : (dats m 0 c).arrAt 15 (cfgs 0).N = cut256 (wholeProj m c) 2324 InProjRefIdeal.Gen.slices_S8x2048x4444_S8x2048x256_0_0_2324 := by
  refine (dats m 0 c).arrAt_eq_of_covers 15 _ (by decide +kernel) fun t hf y => ?_
  blk_simp; rw [after0_15]
  idx_vars y
  refine (point15 m c t _ _).trans (congrArg (cut256 (wholeProj m c) 2324 InProjRefIdeal.Gen.slices_S8x2048x4444_S8x2048x256_0_0_2324) ?_)
  blk_ext [idx t]

/-- The twelfth part's array after the run. -/
theorem final16 (c : Dev nD) : (dats m 0 c).arrAt 16 (cfgs 0).N = cut256 (wholeProj m c) 2580 InProjRefIdeal.Gen.slices_S8x2048x4444_S8x2048x256_0_0_2580 := by
  refine (dats m 0 c).arrAt_eq_of_covers 16 _ (by decide +kernel) fun t hf y => ?_
  blk_simp; rw [after0_16]
  idx_vars y
  refine (point16 m c t _ _).trans (congrArg (cut256 (wholeProj m c) 2580 InProjRefIdeal.Gen.slices_S8x2048x4444_S8x2048x256_0_0_2580) ?_)
  blk_ext [idx t]

/-- The thirteenth part's array after the run. -/
theorem final17 (c : Dev nD) : (dats m 0 c).arrAt 17 (cfgs 0).N = scaledRope4 (wholeProj m c) 2836 InProjRefIdeal.Gen.slices_S8x2048x4444_S8x2048x256_0_0_2836 := by
  refine (dats m 0 c).arrAt_eq_of_covers 17 _ (by decide +kernel) fun t hf y => ?_
  blk_simp; rw [after0_17]
  idx_vars y
  refine (point17 m c t _ _).trans (congrArg (scaledRope4 (wholeProj m c) 2836 InProjRefIdeal.Gen.slices_S8x2048x4444_S8x2048x256_0_0_2836) ?_)
  blk_ext [idx t]

/-- The fourteenth part's array after the run. -/
theorem final18 (c : Dev nD) : (dats m 0 c).arrAt 18 (cfgs 0).N = rope4 (wholeProj m c) 3092 InProjRefIdeal.Gen.slices_S8x2048x4444_S8x2048x256_0_0_3092 := by
  refine (dats m 0 c).arrAt_eq_of_covers 18 _ (by decide +kernel) fun t hf y => ?_
  blk_simp; rw [after0_18]
  idx_vars y
  refine (point18 m c t _ _).trans (congrArg (rope4 (wholeProj m c) 3092 InProjRefIdeal.Gen.slices_S8x2048x4444_S8x2048x256_0_0_3092) ?_)
  blk_ext [idx t]

/-- The fifteenth part's array after the run. -/
theorem final19 (c : Dev nD) : (dats m 0 c).arrAt 19 (cfgs 0).N = cut256 (wholeProj m c) 3348 InProjRefIdeal.Gen.slices_S8x2048x4444_S8x2048x256_0_0_3348 := by
  refine (dats m 0 c).arrAt_eq_of_covers 19 _ (by decide +kernel) fun t hf y => ?_
  blk_simp; rw [after0_19]
  idx_vars y
  refine (point19 m c t _ _).trans (congrArg (cut256 (wholeProj m c) 3348 InProjRefIdeal.Gen.slices_S8x2048x4444_S8x2048x256_0_0_3348) ?_)
  blk_ext [idx t]

/-- The sixteenth part's array after the run. -/
theorem final20 (c : Dev nD) : (dats m 0 c).arrAt 20 (cfgs 0).N = cut256 (wholeProj m c) 3604 InProjRefIdeal.Gen.slices_S8x2048x4444_S8x2048x256_0_0_3604 := by
  refine (dats m 0 c).arrAt_eq_of_covers 20 _ (by decide +kernel) fun t hf y => ?_
  blk_simp; rw [after0_20]
  idx_vars y
  refine (point20 m c t _ _).trans (congrArg (cut256 (wholeProj m c) 3604 InProjRefIdeal.Gen.slices_S8x2048x4444_S8x2048x256_0_0_3604) ?_)
  blk_ext [idx t]

/-- The seventeenth part's array after the run. -/
theorem final21 (c : Dev nD) : (dats m 0 c).arrAt 21 (cfgs 0).N = scaledRope8 (wholeProj m c) := by
  refine (dats m 0 c).arrAt_eq_of_covers 21 _ (by decide +kernel) fun t hf y => ?_
  blk_simp; rw [after0_21]
  idx_vars y
  refine (point21 m c t _ _).trans (congrArg (scaledRope8 (wholeProj m c)) ?_)
  blk_ext [idx t]

/-- The eighteenth part's array after the run. -/
theorem final22 (c : Dev nD) : (dats m 0 c).arrAt 22 (cfgs 0).N = rope1 (wholeProj m c) := by
  refine (dats m 0 c).arrAt_eq_of_covers 22 _ (by decide +kernel) fun t hf y => ?_
  blk_simp; rw [after0_22]
  idx_vars y
  refine (point22 m c t _ _).trans (congrArg (rope1 (wholeProj m c)) ?_)
  blk_ext [idx t]

/-- The nineteenth part's array after the run. -/
theorem final23 (c : Dev nD) : (dats m 0 c).arrAt 23 (cfgs 0).N = narrow8 (wholeProj m c) := by
  refine (dats m 0 c).arrAt_eq_of_covers 23 _ (by decide +kernel) fun t hf y => ?_
  blk_simp; rw [after0_23]
  idx_vars y
  refine (point23 m c t _ _).trans (congrArg (narrow8 (wholeProj m c)) ?_)
  blk_ext [idx t]

end Cert.InProjIdeal.Value

end
-- ==== Proof.InProjKerRun.lean ====
/- The kernel's input projection runs to the reference's nineteen parts. -/
module

public import proofs.«01_k».proof.Proof.InProjValue
public import Idealize.ShloMosaic.Lib.Claim

@[expose] public section

set_option maxRecDepth 16384

noncomputable section

namespace Cert.InProjIdeal.Value

open Idealize.ShloMosaic Idealize.ShloMosaic.TcCoe Idealize.SL.Sem Cert.InProjIdeal Cert.InProjIdeal.Gen Cert.RowSpec
open Idealize.ShloMosaic.Pipeline (Dat)

open Cert.InProjRefIdeal.Read (PROJ PROJ_at ang cut128 cut128_at scaled128 scaled128_at cut256 cut256_at cut768 cut768_at narrow16 narrow16_at narrow4 narrow4_at
  narrow8 narrow8_at rope4 rope4_at scaledRope4 scaledRope4_at scaledRope8 scaledRope8_at rope1 rope1_at)

open Cert.InProjRefIdeal (S8x2048x4444 S8x2048x256)

variable (m : (ℓ : Loc nD τ sig) → Buf (Elt Ideal) ℓ)

set_option maxHeartbeats 4000000 in
/-- The kernel runs and ends with the reference's nineteen parts. -/
theorem run (ρ : Dev nD → PrngReg) :
    θ_run defs (onTc (τ := τ) (main (F := Ideal))) ⟨m, fun _ => 0, ρ⟩ fun r => ∀ c : Dev nD,
      r.2.mem ((c.tc : Thread nD τ).loc main_v67_0) = scaled128 (wholeProj m c)
      ∧ r.2.mem ((c.tc : Thread nD τ).loc main_v67_1) = cut128 (wholeProj m c) 128 InProjRefIdeal.Gen.slices_S8x2048x4444_S8x2048x128_0_0_128
      ∧ r.2.mem ((c.tc : Thread nD τ).loc main_v67_2) = cut256 (wholeProj m c) 256 InProjRefIdeal.Gen.slices_S8x2048x4444_S8x2048x256_0_0_256
      ∧ r.2.mem ((c.tc : Thread nD τ).loc main_v67_3) = cut256 (wholeProj m c) 512 InProjRefIdeal.Gen.slices_S8x2048x4444_S8x2048x256_0_0_512
      ∧ r.2.mem ((c.tc : Thread nD τ).loc main_v67_4) = narrow16 (wholeProj m c)
      ∧ r.2.mem ((c.tc : Thread nD τ).loc main_v67_5) = cut256 (wholeProj m c) 784 InProjRefIdeal.Gen.slices_S8x2048x4444_S8x2048x256_0_0_784
      ∧ r.2.mem ((c.tc : Thread nD τ).loc main_v67_6) = cut768 (wholeProj m c)
      ∧ r.2.mem ((c.tc : Thread nD τ).loc main_v67_7) = narrow4 (wholeProj m c)
      ∧ r.2.mem ((c.tc : Thread nD τ).loc main_v67_8) = scaledRope4 (wholeProj m c) 1812 InProjRefIdeal.Gen.slices_S8x2048x4444_S8x2048x256_0_0_1812
      ∧ r.2.mem ((c.tc : Thread nD τ).loc main_v67_9) = rope4 (wholeProj m c) 2068 InProjRefIdeal.Gen.slices_S8x2048x4444_S8x2048x256_0_0_2068
      ∧ r.2.mem ((c.tc : Thread nD τ).loc main_v67_10) = cut256 (wholeProj m c) 2324 InProjRefIdeal.Gen.slices_S8x2048x4444_S8x2048x256_0_0_2324
      ∧ r.2.mem ((c.tc : Thread nD τ).loc main_v67_11) = cut256 (wholeProj m c) 2580 InProjRefIdeal.Gen.slices_S8x2048x4444_S8x2048x256_0_0_2580
      ∧ r.2.mem ((c.tc : Thread nD τ).loc main_v67_12) = scaledRope4 (wholeProj m c) 2836 InProjRefIdeal.Gen.slices_S8x2048x4444_S8x2048x256_0_0_2836
      ∧ r.2.mem ((c.tc : Thread nD τ).loc main_v67_13) = rope4 (wholeProj m c) 3092 InProjRefIdeal.Gen.slices_S8x2048x4444_S8x2048x256_0_0_3092
      ∧ r.2.mem ((c.tc : Thread nD τ).loc main_v67_14) = cut256 (wholeProj m c) 3348 InProjRefIdeal.Gen.slices_S8x2048x4444_S8x2048x256_0_0_3348
      ∧ r.2.mem ((c.tc : Thread nD τ).loc main_v67_15) = cut256 (wholeProj m c) 3604 InProjRefIdeal.Gen.slices_S8x2048x4444_S8x2048x256_0_0_3604
      ∧ r.2.mem ((c.tc : Thread nD τ).loc main_v67_16) = scaledRope8 (wholeProj m c)
      ∧ r.2.mem ((c.tc : Thread nD τ).loc main_v67_17) = rope1 (wholeProj m c)
      ∧ r.2.mem ((c.tc : Thread nD τ).loc main_v67_18) = narrow8 (wholeProj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    have hw := (h c).1
    have hb := (h c).2
    exact ⟨(hw 5).trans (final5 m c), (hw 6).trans (final6 m c), (hw 7).trans (final7 m c), (hw 8).trans (final8 m c), (hw 9).trans (final9 m c), (hw 10).trans (final10 m c), (hw 11).trans (final11 m c), (hw 12).trans (final12 m c), (hw 13).trans (final13 m c), (hw 14).trans (final14 m c), (hw 15).trans (final15 m c), (hw 16).trans (final16 m c), (hw 17).trans (final17 m c), (hw 18).trans (final18 m c), (hw 19).trans (final19 m c), (hw 20).trans (final20 m c), (hw 21).trans (final21 m c), (hw 22).trans (final22 m c), (hw 23).trans (final23 m c),
      (hw 0).trans (((dats m 0 c).arrAt_in 0 rfl _).trans ((A_eq m c 0).trans (V_main_arg0 m c))),
      (hb main_arg1 (Pipeline.mem_restRefs_of main_arg1 (by decide) (by decide))).trans (V_main_arg1 m c),
      (hb main_arg2 (Pipeline.mem_restRefs_of main_arg2 (by decide) (by decide))).trans (V_main_arg2 m c)⟩) (run_main m ρ)

end Cert.InProjIdeal.Value

end
-- ==== Proof.InProjClaim.lean ====
/- The input projection's frame of the reference and its value claim. -/
module

public import proofs.«01_k».proof.Defs
public import proofs.«01_k».proof.Proof.InProjRun
public import proofs.«01_k».proof.Proof.InProjKerRun
public import proofs.«01_k».proof.Proof.Gen.InProjRefIdeal.Run
public import Idealize.ShloMosaic.Lib.Claim

@[expose] public section

set_option maxRecDepth 16384

noncomputable section

namespace Cert.InProjClaim

open Idealize.ShloMosaic Idealize.ShloMosaic.TcCoe Idealize.SL.Sem

/-- The reference runs, leaves its arguments as they were and every counter at zero. -/
theorem frameRef : Cert.quiescent_InProjRefIdeal (hInProjRefIdeal := Cert.InProjRefIdeal.Gen.facts) := fun m g _ =>
  (θ_run Cert.InProjRefIdeal.defs _ _).mono (fun r h => ⟨fun c => (h c).2.2.2.2.2.2.2.2.2.2.2.2.2.2.2.2.2.2.2, sem_eq_zero_of_no_sems (by decide) r.2⟩)
    (Cert.InProjRefIdeal.Value.run m g)

open Cert.InProjRefIdeal.Read Cert.InProjIdeal.Value in
set_option maxHeartbeats 4000000 in
/-- From equal arguments, the kernel and the reference end with each of the nineteen parts equal. -/
theorem algebraic : Cert.algebraic_InProjIdeal_InProjRefIdeal (hInProjIdeal := Cert.InProjIdeal.Gen.facts) (hInProjRefIdeal := Cert.InProjRefIdeal.Gen.facts) := by
  intro m g m' g' _ hagree
  refine ⟨fun c => scaled128 (wholeProj m c), fun c => cut128 (wholeProj m c) 128 InProjRefIdeal.Gen.slices_S8x2048x4444_S8x2048x128_0_0_128, fun c => cut256 (wholeProj m c) 256 InProjRefIdeal.Gen.slices_S8x2048x4444_S8x2048x256_0_0_256, fun c => cut256 (wholeProj m c) 512 InProjRefIdeal.Gen.slices_S8x2048x4444_S8x2048x256_0_0_512, fun c => narrow16 (wholeProj m c), fun c => cut256 (wholeProj m c) 784 InProjRefIdeal.Gen.slices_S8x2048x4444_S8x2048x256_0_0_784, fun c => cut768 (wholeProj m c), fun c => narrow4 (wholeProj m c), fun c => scaledRope4 (wholeProj m c) 1812 InProjRefIdeal.Gen.slices_S8x2048x4444_S8x2048x256_0_0_1812, fun c => rope4 (wholeProj m c) 2068 InProjRefIdeal.Gen.slices_S8x2048x4444_S8x2048x256_0_0_2068, fun c => cut256 (wholeProj m c) 2324 InProjRefIdeal.Gen.slices_S8x2048x4444_S8x2048x256_0_0_2324, fun c => cut256 (wholeProj m c) 2580 InProjRefIdeal.Gen.slices_S8x2048x4444_S8x2048x256_0_0_2580, fun c => scaledRope4 (wholeProj m c) 2836 InProjRefIdeal.Gen.slices_S8x2048x4444_S8x2048x256_0_0_2836, fun c => rope4 (wholeProj m c) 3092 InProjRefIdeal.Gen.slices_S8x2048x4444_S8x2048x256_0_0_3092, fun c => cut256 (wholeProj m c) 3348 InProjRefIdeal.Gen.slices_S8x2048x4444_S8x2048x256_0_0_3348, fun c => cut256 (wholeProj m c) 3604 InProjRefIdeal.Gen.slices_S8x2048x4444_S8x2048x256_0_0_3604, fun c => scaledRope8 (wholeProj m c), fun c => rope1 (wholeProj m c), fun c => narrow8 (wholeProj m c),
    Cert.InProjIdeal.Value.run m g, (θ_run Cert.InProjRefIdeal.defs _ _).mono (fun r h c => ?_) (Cert.InProjRefIdeal.Read.run m' g')⟩
  have e : Cert.InProjRefIdeal.Read.p m' c = wholeProj m c := by
    obtain ⟨a0, a1, a2⟩ := hagree c
    unfold Cert.InProjRefIdeal.Read.p
    rw [a0, a1, a2]
  have hc := h c
  rw [e] at hc
  exact hc

end Cert.InProjClaim

end
-- ==== Proof.MemKvRef.lean ====
/- The reference's memory keys and values read at an index. -/
module

public import proofs.«01_k».proof.Proof.RowSpec
public import proofs.«01_k».proof.Proof.Gen.MemKvRefIdeal.Run

@[expose] public section

set_option maxRecDepth 16384

noncomputable section

namespace Cert.MemKvRefIdeal.Read

open Idealize.ShloMosaic Idealize.ShloMosaic.TcCoe Idealize.SL.Sem Cert.MemKvRefIdeal Cert.MemKvRefIdeal.Gen Cert.RowSpec

/-- The normalized memory. -/
def normed (X : FVec Ideal S8x256x1024 .f32) (g : FVec Ideal S1024 .f32) : FVec Ideal S8x256x1024 .f32 :=
  mulf (mulf X (broadcastInDim S8x256x1024 ![0, 1, 2] bcast_S8x256x1_S8x256x1024_0_1_2 (Host.rsqrt (addf (Host.divf (broadcastInDim S8x256x1 ![0, 1] bcast_S8x256_S8x256x1_0_1
    (Host.reduceAdd (mulf X X) (constant S_ .f32 0x00000000#32) reducesTo_S8x256x1024_S8x256_d2 h_S_))
      (broadcastInDim S8x256x1 ![] bcast_S_S8x256x1 (constant S_ .f32 0x44800000#32)))
      (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 g))

/-- Its projection. -/
def proj (H : FVec Ideal S8x256x1024 .f32) (W : FVec Ideal S1024x1024 .f32) : FVec Ideal S2048x1024 .f32 :=
  shapeCast _ (Host.dotGeneral (φ₁ := .f32) (φ₂ := .f32) dot_S8x256x1024_S1024x1024_S8x256x1024_2_0_01_1_n_n none H W) shapeCasts_S8x256x1024_S2048x1024

/-- The reference's result for the weights `W`. -/
def REF (X : FVec Ideal S8x256x1024 .f32) (g : FVec Ideal S1024 .f32) (W : FVec Ideal S1024x1024 .f32) : FVec Ideal S2048x1024 .f32 :=
  proj (normed X g) W

/-- An element of the normalized memory. -/
theorem normed_at (X : FVec Ideal S8x256x1024 .f32) (g : FVec Ideal S1024 .f32) (b : Fin 8) (l : Fin 256) (c : Fin 1024) :
    normed X g (ix3 b l c) = nrm (fun c => X (ix3 b l c)) (fun c => g (ix1 c)) c := by
  pointwise [normed]
  rfl

/-- An element of the projection. -/
theorem proj_at (H : FVec Ideal S8x256x1024 .f32) (W : FVec Ideal S1024x1024 .f32) (r : Fin 2048) (c : Fin 1024) :
    proj H W (ix2 r c) = ∑ i : Fin 1024, H (ix3 ⟨r / 256, by omega⟩ ⟨r % 256, by omega⟩ i) * W (ix2 i c) := by
  pointwise [proj]

/-- An element of the reference's result. -/
theorem REF_at (X : FVec Ideal S8x256x1024 .f32) (g : FVec Ideal S1024 .f32) (W : FVec Ideal S1024x1024 .f32) (r : Fin 2048) (c : Fin 1024) :
    REF X g W (ix2 r c) = prj (fun c => X (ix3 ⟨r / 256, by omega⟩ ⟨r % 256, by omega⟩ c)) (fun c => g (ix1 c)) (fun i => W (ix2 i c)) := by
  rw [REF, proj_at]
  simp only [normed_at]
  rfl

end Cert.MemKvRefIdeal.Read

end
-- ==== Proof.MemKvValue.lean ====
/- The kernel's memory keys and values are the reference's. -/
module

public import proofs.«01_k».proof.Proof.MemKvRef
public import proofs.«01_k».proof.Proof.Gen.MemKvIdeal.Frame
public import Idealize.ShloMosaic.Lib.Pipeline.ValueKit

@[expose] public section

set_option maxRecDepth 16384

noncomputable section

namespace Cert.MemKvIdeal.Value

open Idealize.ShloMosaic Idealize.ShloMosaic.TcCoe Idealize.SL.Sem Cert.MemKvIdeal Cert.MemKvIdeal.Gen Cert.RowSpec
open Idealize.ShloMosaic.Pipeline (Dat)

/-- The normalized block. -/
theorem pay1_at (x : FVec Ideal S256x1024 .f32) (g : FVec Ideal S1x1024 .f32) (r : Fin 256) (c : Fin 1024) :
    k0_pay1 (F := Ideal) x g (ix2 r c) = nrm (fun c => x (ix2 r c)) (fun c => g (ix2 0 c)) c := by
  pointwise [k0_pay1]
  rfl

/-- The keys' block. -/
theorem pay2_at (x : FVec Ideal S256x1024 .f32) (g : FVec Ideal S1x1024 .f32) (w : FVec Ideal S1024x1024 .bf16) (r : Fin 256) (c : Fin 1024) :
    k0_pay2 (F := Ideal) x g w (ix2 r c) = ∑ i : Fin 1024, k0_pay1 (F := Ideal) x g (ix2 r i) * w (ix2 i c) := by
  pointwise [k0_pay2]

/-- The values' block. -/
theorem pay3_at (x : FVec Ideal S256x1024 .f32) (g : FVec Ideal S1x1024 .f32) (w : FVec Ideal S1024x1024 .bf16) (r : Fin 256) (c : Fin 1024) :
    k0_pay3 (F := Ideal) x g w (ix2 r c) = ∑ i : Fin 1024, k0_pay1 (F := Ideal) x g (ix2 r i) * w (ix2 i c) := by
  pointwise [k0_pay3]

/-- What a grid point stores as keys. -/
theorem block3_at (x0 : Vec Ideal S256x1024 .f32) (x1 : Vec Ideal S1x1024 .f32) (x2 : Vec Ideal S1024x2048 .bf16) (r : Fin 256) (c : Fin 1024) :
    out0_3 x0 x1 x2 (ix2 r c) = prj (fun c => x0 (ix2 r c)) (fun c => x1 (ix2 0 c)) (fun i => x2 (ix2 i ⟨c, by omega⟩)) := by
  rw [out0_3, View.canon_unit_zero (by decide), pay2_at]
  simp only [pay1_at]
  pointwise []
  rfl

/-- What a grid point stores as values. -/
theorem block4_at (x0 : Vec Ideal S256x1024 .f32) (x1 : Vec Ideal S1x1024 .f32) (x2 : Vec Ideal S1024x2048 .bf16) (r : Fin 256) (c : Fin 1024) :
    out0_4 x0 x1 x2 (ix2 r c) = prj (fun c => x0 (ix2 r c)) (fun c => x1 (ix2 0 c)) (fun i => x2 (ix2 i ⟨1024 + c, by omega⟩)) := by
  rw [out0_4, View.canon_unit_zero (by decide), pay3_at]
  simp only [pay1_at]
  pointwise []
  rfl

variable (m : (ℓ : Loc nD τ sig) → Buf (Elt Ideal) ℓ)

/-- The block each window holds at each grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- There are 8 grid points. -/
theorem lt8 (t : Fin cfg0.N) : t.val < 8 := t.isLt

/-- The memory's block. -/
theorem x_at (c : Dev nD) (t : Fin cfg0.N) (r : Fin 256) (d : Fin 1024) :
    iblk m c 0 t (ix2 r d) = m ((c : Thread nD τ).loc main_arg0) (ix3 ⟨t.val, lt8 t⟩ r d) := by
  have := lt8 t
  have h1 : (t.val * 256 + (r : ℕ)) / 256 = t.val := by omega
  have h2 : (t.val * 256 + (r : ℕ)) % 256 = r := by omega
  blk_point [iblk, idx t]

/-- The norm's weights. -/
theorem g_at (c : Dev nD) (t : Fin cfg0.N) (d : Fin 1024) :
    iblk m c 1 t (ix2 0 d) = m ((c : Thread nD τ).loc main_arg1) (ix1 d) := by
  blk_point [iblk, idx t]

/-- The joined weights: the keys' columns, then the values'. -/
theorem w_at (c : Dev nD) (t : Fin cfg0.N) (i : Fin 1024) (e : Fin 2048) :
    iblk m c 2 t (ix2 i e) = if h : (e : ℕ) < 1024 then m ((c : Thread nD τ).loc main_arg2) (ix2 i ⟨e, h⟩)
      else m ((c : Thread nD τ).loc main_arg3) (ix2 i ⟨e - 1024, by omega⟩) := by
  have h : iblk m c 2 t (ix2 i e) = V m c main_v2 (ix2 i e) := by
    show V m c main_v2 _ = V m c main_v2 _
    refine congrArg _ ?_
    blk_ext [idx t]
  rw [h]
  entry_read
  pointwise []

/-- The keys' weights. -/
theorem wk_at (c : Dev nD) (t : Fin cfg0.N) (i d : Fin 1024) :
    iblk m c 2 t (ix2 i ⟨d, by omega⟩) = m ((c : Thread nD τ).loc main_arg2) (ix2 i d) :=
  (w_at m c t i _).trans (dif_pos d.isLt)

/-- The values' weights. -/
theorem wv_at (c : Dev nD) (t : Fin cfg0.N) (i d : Fin 1024) :
    iblk m c 2 t (ix2 i ⟨1024 + d, by omega⟩) = m ((c : Thread nD τ).loc main_arg3) (ix2 i d) :=
  (w_at m c t i _).trans ((dif_neg (by show ¬ 1024 + (d : ℕ) < 1024; omega)).trans
    (congrArg (fun e => m ((c : Thread nD τ).loc main_arg3) (ix2 i e)) (Fin.ext (by show 1024 + (d : ℕ) - 1024 = d; omega))))

/-- The reference's keys over the kernel's arguments. -/
abbrev refK (c : Dev nD) : FVec Ideal S2048x1024 .f32 :=
  MemKvRefIdeal.Read.REF (m ((c : Thread nD τ).loc main_arg0)) (m ((c : Thread nD τ).loc main_arg1)) (m ((c : Thread nD τ).loc main_arg2))

/-- The reference's values over the kernel's arguments. -/
abbrev refV (c : Dev nD) : FVec Ideal S2048x1024 .f32 :=
  MemKvRefIdeal.Read.REF (m ((c : Thread nD τ).loc main_arg0)) (m ((c : Thread nD τ).loc main_arg1)) (m ((c : Thread nD τ).loc main_arg3))

/-- What a grid point stores as keys is the reference's at its rows. -/
theorem pointK (c : Dev nD) (t : Fin cfg0.N) (r : Fin 256) (d : Fin 1024) :
    out0_3 (iblk m c 0 t) (iblk m c 1 t) (iblk m c 2 t) (ix2 r d) = refK m c (ix2 ⟨t.val * 256 + r, by have := lt8 t; omega⟩ d) := by
  have h1 : (t.val * 256 + (r : ℕ)) / 256 = t.val := by omega
  have h2 : (t.val * 256 + (r : ℕ)) % 256 = r := by omega
  refine (block3_at _ _ _ r d).trans (Eq.trans ?_ (MemKvRefIdeal.Read.REF_at _ _ _ _ _).symm)
  simp only [h1, h2, x_at, g_at, wk_at]

/-- What a grid point stores as values is the reference's at its rows. -/
theorem pointV (c : Dev nD) (t : Fin cfg0.N) (r : Fin 256) (d : Fin 1024) :
    out0_4 (iblk m c 0 t) (iblk m c 1 t) (iblk m c 2 t) (ix2 r d) = refV m c (ix2 ⟨t.val * 256 + r, by have := lt8 t; omega⟩ d) := by
  have h1 : (t.val * 256 + (r : ℕ)) / 256 = t.val := by omega
  have h2 : (t.val * 256 + (r : ℕ)) % 256 = r := by omega
  refine (block4_at _ _ _ r d).trans (Eq.trans ?_ (MemKvRefIdeal.Read.REF_at _ _ _ _ _).symm)
  simp only [h1, h2, x_at, g_at, wv_at]

/-- The keys' array after the run. -/
theorem finalK (c : Dev nD) : (dats m 0 c).arrAt 3 (cfgs 0).N = refK m c := by
  refine (dats m 0 c).arrAt_eq_of_covers 3 _ (by decide +kernel) fun t hf y => ?_
  blk_simp; rw [after0_3]
  idx_vars y
  refine (pointK m c t _ _).trans (congrArg (refK m c) ?_)
  blk_ext [idx t]

/-- The values' array after the run. -/
theorem finalV (c : Dev nD) : (dats m 0 c).arrAt 4 (cfgs 0).N = refV m c := by
  refine (dats m 0 c).arrAt_eq_of_covers 4 _ (by decide +kernel) fun t hf y => ?_
  blk_simp; rw [after0_4]
  idx_vars y
  refine (pointV m c t _ _).trans (congrArg (refV m c) ?_)
  blk_ext [idx t]

end Cert.MemKvIdeal.Value

end
-- ==== Proof.MemKvClaim.lean ====
/- The memory projection's frame of the reference and its value claim. -/
module

public import proofs.«01_k».proof.Defs
public import proofs.«01_k».proof.Proof.MemKvValue
public import Idealize.ShloMosaic.Lib.Claim

@[expose] public section

set_option maxRecDepth 16384

noncomputable section

namespace Cert.MemKvClaim

open Idealize.ShloMosaic Idealize.ShloMosaic.TcCoe Idealize.SL.Sem

/-- The reference runs, leaves its arguments as they were and every counter at zero. -/
theorem frameRef : Cert.quiescent_MemKvRefIdeal (hMemKvRefIdeal := Cert.MemKvRefIdeal.Gen.facts) := fun m g _ =>
  (θ_run Cert.MemKvRefIdeal.defs _ _).mono (fun r h => ⟨fun c => (h c).2.2, sem_eq_zero_of_no_sems (by decide) r.2⟩)
    (Cert.MemKvRefIdeal.Value.run m g)

/-- From equal arguments, the kernel and the reference end with equal keys and equal values. -/
theorem algebraic : Cert.algebraic_MemKvIdeal_MemKvRefIdeal (hMemKvIdeal := Cert.MemKvIdeal.Gen.facts) (hMemKvRefIdeal := Cert.MemKvRefIdeal.Gen.facts) := by
  pair_intro
  · run_from Cert.MemKvIdeal.Gen.run_main m g
  · run_from Cert.MemKvRefIdeal.Value.run m' g'
    · exact (Cert.MemKvIdeal.Value.finalK m c).symm
    · exact (Cert.MemKvIdeal.Value.finalV m c).symm

end Cert.MemKvClaim

end
-- ==== Proof.OutProjRef.lean ====
/- The reference's output projection read at an index. -/
module

public import proofs.«01_k».proof.Proof.RowSpec
public import proofs.«01_k».proof.Proof.Gen.OutProjRefIdeal.Run

@[expose] public section

set_option maxRecDepth 16384

noncomputable section

namespace Cert.OutProjRefIdeal.Read

open Idealize.ShloMosaic Idealize.ShloMosaic.TcCoe Idealize.SL.Sem Cert.OutProjRefIdeal Cert.OutProjRefIdeal.Gen Cert.RowSpec Cert.XattnSpec

/-- The four mixers' outputs side by side. -/
def mix (a b c d : FVec Ideal S16384x256 .f32) : FVec Ideal S8x2048x1024 .f32 :=
  concatenate S8x2048x1024 2 [⟨S8x2048x256, shapeCast _ a shapeCasts_S16384x256_S8x2048x256⟩, ⟨S8x2048x256, shapeCast _ b shapeCasts_S16384x256_S8x2048x256⟩,
    ⟨S8x2048x256, shapeCast _ c shapeCasts_S16384x256_S8x2048x256⟩, ⟨S8x2048x256, shapeCast _ d shapeCasts_S16384x256_S8x2048x256⟩]
    concatenates_S8x2048x256_S8x2048x256_S8x2048x256_S8x2048x256_S8x2048x1024_d2

/-- A projection by a square of weights. -/
def proj (H : FVec Ideal S8x2048x1024 .f32) (W : FVec Ideal S1024x1024 .f32) : FVec Ideal S8x2048x1024 .f32 :=
  Host.dotGeneral (φ₁ := .f32) (φ₂ := .f32) dot_S8x2048x1024_S1024x1024_S8x2048x1024_2_0_01_1_n_n none H W

/-- The normalized rows. -/
def normed (X : FVec Ideal S8x2048x1024 .f32) (g : FVec Ideal S1024 .f32) : FVec Ideal S8x2048x1024 .f32 :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1
    (Host.reduceAdd (mulf X X) (constant S_ .f32 0x00000000#32) reducesTo_S8x2048x1024_S8x2048_d2 h_S_))
      (broadcastInDim S8x2048x1 ![] bcast_S_S8x2048x1 (constant S_ .f32 0x44800000#32)))
      (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The residual with the normalized projection. -/
def resid (Y : FVec Ideal S8x2048x1024 .f32) (g : FVec Ideal S1024 .f32) (X : FVec Ideal S16384x1024 .f32) : FVec Ideal S8x2048x1024 .f32 :=
  addf (shapeCast _ X shapeCasts_S16384x1024_S8x2048x1024) (normed Y g)

/-- The scaled queries from the projection. -/
def scaled (Y : FVec Ideal S8x2048x1024 .f32) : FVec Ideal S16384x1024 .f32 :=
  shapeCast _ (mulf Y (broadcastInDim S8x2048x1024 ![] bcast_S_S8x2048x1024 (constant S_ .f32 0x3D800000#32))) shapeCasts_S8x2048x1024_S16384x1024

/-- The rows one after another. -/
def flat (Y : FVec Ideal S8x2048x1024 .f32) : FVec Ideal S16384x1024 .f32 := shapeCast _ Y shapeCasts_S8x2048x1024_S16384x1024

/-- The reference's first result. -/
def REFx (a b c d : FVec Ideal S16384x256 .f32) (X : FVec Ideal S16384x1024 .f32) (W : FVec Ideal S1024x1024 .f32) (g : FVec Ideal S1024 .f32) :
    FVec Ideal S16384x1024 .f32 :=
  flat (resid (proj (mix a b c d) W) g X)

/-- The reference's second result. -/
def REFq (a b c d : FVec Ideal S16384x256 .f32) (X : FVec Ideal S16384x1024 .f32) (W : FVec Ideal S1024x1024 .f32) (g g2 : FVec Ideal S1024 .f32)
    (Wq : FVec Ideal S1024x1024 .f32) : FVec Ideal S16384x1024 .f32 :=
  scaled (proj (normed (resid (proj (mix a b c d) W) g X) g2) Wq)

/-- The run's second result is that term. -/
theorem res_eq (m : (ℓ : Loc nD τ sig) → Buf (Elt Ideal) ℓ) (c : Dev nD) :
    Value.res_main_v38 m c = REFq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

/-- An element of the mixers' outputs. -/
theorem mix_at (a b c d : FVec Ideal S16384x256 .f32) (n : Fin 8) (l : Fin 2048) (h : Fin 4) (e : Fin 256) :
    mix a b c d (ix3 n l ⟨h * 256 + e, by omega⟩) = (![a, b, c, d] h) (ix2 ⟨n * 2048 + l, by omega⟩ e) := by
  fin_cases h <;> pointwise [mix]
  all_goals
    split_ifs <;> first | (exfalso; omega) | (congr 2; exact Fin.ext (by dsimp only; omega))

/-- An element of the first projection, its contraction cut by mixers. -/
theorem proj_mix_at (a b c d : FVec Ideal S16384x256 .f32) (W : FVec Ideal S1024x1024 .f32) (n : Fin 8) (l : Fin 2048) (j : Fin 1024) :
    proj (mix a b c d) W (ix3 n l j) = ∑ h : Fin 4, ∑ e : Fin 256, (![a, b, c, d] h) (ix2 ⟨n * 2048 + l, by omega⟩ e) * W (ix2 ⟨h * 256 + e, by omega⟩ j) := by
  have h : ∀ M : FVec Ideal S8x2048x1024 .f32, proj M W (ix3 n l j) =
      ∑ h : Fin 4, ∑ e : Fin 256, M (ix3 n l ⟨h * 256 + e, by omega⟩) * W (ix2 ⟨h * 256 + e, by omega⟩ j) := fun M => by
    pointwise [proj]
    exact Fin.sum_univ_tiles 4 256 rfl _
  rw [h]
  simp only [mix_at]

/-- An element of a projection. -/
theorem proj_at (H : FVec Ideal S8x2048x1024 .f32) (W : FVec Ideal S1024x1024 .f32) (n : Fin 8) (l : Fin 2048) (j : Fin 1024) :
    proj H W (ix3 n l j) = ∑ i : Fin 1024, H (ix3 n l i) * W (ix2 i j) := by
  pointwise [proj]

/-- An element of the normalized rows. -/
theorem normed_at (X : FVec Ideal S8x2048x1024 .f32) (g : FVec Ideal S1024 .f32) (n : Fin 8) (l : Fin 2048) (j : Fin 1024) :
    normed X g (ix3 n l j) = nrm (fun c => X (ix3 n l c)) (fun c => g (ix1 c)) j := by
  pointwise [normed]
  rfl

/-- An element of the residual. -/
theorem resid_at (Y : FVec Ideal S8x2048x1024 .f32) (g : FVec Ideal S1024 .f32) (X : FVec Ideal S16384x1024 .f32) (n : Fin 8) (l : Fin 2048) (j : Fin 1024) :
    resid Y g X (ix3 n l j) = out (fun c => Y (ix3 n l c)) (fun c => g (ix1 c)) (fun c => X (ix2 ⟨n * 2048 + l, by omega⟩ c)) j := by
  have h : ∀ N : FVec Ideal S8x2048x1024 .f32, addf (shapeCast _ X shapeCasts_S16384x1024_S8x2048x1024) N (ix3 n l j) =
      X (ix2 ⟨n * 2048 + l, by omega⟩ j) + N (ix3 n l j) := fun N => by pointwise []
  rw [resid, h, normed_at]
  rfl

/-- An element of the scaled queries. -/
theorem scaled_at (Y : FVec Ideal S8x2048x1024 .f32) (r : Fin 16384) (j : Fin 1024) :
    scaled Y (ix2 r j) = Y (ix3 ⟨r / 2048, by omega⟩ ⟨r % 2048, by omega⟩ j) * Ideal.ofBits .f32 0x3D800000#32 := by
  pointwise [scaled]

/-- A row's number is its sequence and its position. -/
theorem row_eq (r : Fin 16384) : (⟨r / 2048 * 2048 + r % 2048, by omega⟩ : Fin 16384) = r :=
  Fin.ext (by show (r : ℕ) / 2048 * 2048 + r % 2048 = r; omega)

/-- An element of the rows one after another. -/
theorem flat_at (Y : FVec Ideal S8x2048x1024 .f32) (r : Fin 16384) (j : Fin 1024) :
    flat Y (ix2 r j) = Y (ix3 ⟨r / 2048, by omega⟩ ⟨r % 2048, by omega⟩ j) := by
  pointwise [flat]

/-- The reference's first result at an index. -/
theorem REFx_at (a b c d : FVec Ideal S16384x256 .f32) (X : FVec Ideal S16384x1024 .f32) (W : FVec Ideal S1024x1024 .f32) (g : FVec Ideal S1024 .f32)
    (r : Fin 16384) (j : Fin 1024) :
    REFx a b c d X W g (ix2 r j) = outRow (fun h e => (![a, b, c, d] h) (ix2 r e)) (fun i j => W (ix2 i j)) (fun c => g (ix1 c)) (fun c => X (ix2 r c)) j := by
  rw [REFx, flat_at, resid_at]
  simp only [proj_mix_at, row_eq]
  rfl

/-- The reference's second result at an index. -/
theorem REFq_at (a b c d : FVec Ideal S16384x256 .f32) (X : FVec Ideal S16384x1024 .f32) (W : FVec Ideal S1024x1024 .f32) (g g2 : FVec Ideal S1024 .f32)
    (Wq : FVec Ideal S1024x1024 .f32) (r : Fin 16384) (j : Fin 1024) :
    REFq a b c d X W g g2 Wq (ix2 r j) = prj (outRow (fun h e => (![a, b, c, d] h) (ix2 r e)) (fun i j => W (ix2 i j)) (fun c => g (ix1 c))
      (fun c => X (ix2 r c))) (fun c => g2 (ix1 c)) (fun i => Wq (ix2 i j)) * Ideal.ofBits .f32 0x3D800000#32 := by
  rw [REFq, scaled_at, proj_at]
  simp only [normed_at, resid_at, proj_mix_at, row_eq]
  rfl

end Cert.OutProjRefIdeal.Read

end
-- ==== Proof.OutProjValue.lean ====
/- The kernel's output projection: its two arrays are the reference's. -/
module

public import proofs.«01_k».proof.Proof.OutProjRef
public import proofs.«01_k».proof.Proof.Gen.OutProjIdeal.Frame
public import Idealize.ShloMosaic.Lib.Pipeline.ValueKit

@[expose] public section

set_option maxRecDepth 16384

noncomputable section

namespace Cert.OutProjIdeal.Value

open Idealize.ShloMosaic Idealize.ShloMosaic.TcCoe Idealize.SL.Sem Cert.OutProjIdeal Cert.OutProjIdeal.Gen Cert.RowSpec Cert.XattnSpec
open Idealize.ShloMosaic.Pipeline (Dat)

/-- The mixers' projection, one mixer after another. -/
theorem pay3_at (a : FVec Ideal S256x256 .f32) (w : FVec Ideal S256x1024 .bf16) (b : FVec Ideal S256x256 .f32) (w1 : FVec Ideal S256x1024 .bf16)
    (c : FVec Ideal S256x256 .f32) (w2 : FVec Ideal S256x1024 .bf16) (d : FVec Ideal S256x256 .f32) (w3 : FVec Ideal S256x1024 .bf16) (r : Fin 256) (j : Fin 1024) :
    k0_pay3 (F := Ideal) a w b w1 c w2 d w3 (ix2 r j) = (∑ e : Fin 256, a (ix2 r e) * w (ix2 e j)) + (∑ e : Fin 256, b (ix2 r e) * w1 (ix2 e j))
      + (∑ e : Fin 256, c (ix2 r e) * w2 (ix2 e j)) + (∑ e : Fin 256, d (ix2 r e) * w3 (ix2 e j)) := by
  pointwise [k0_pay3]

/-- The mean of the projection's squares. -/
theorem pay5_at (a : FVec Ideal S256x256 .f32) (w : FVec Ideal S256x1024 .bf16) (b : FVec Ideal S256x256 .f32) (w1 : FVec Ideal S256x1024 .bf16)
    (c : FVec Ideal S256x256 .f32) (w2 : FVec Ideal S256x1024 .bf16) (d : FVec Ideal S256x256 .f32) (w3 : FVec Ideal S256x1024 .bf16) (r : Fin 256) :
    k0_pay5 (F := Ideal) a w b w1 c w2 d w3 (ix2 r 0) = Ideal.div (∑ j : Fin 1024, k0_pay3 (F := Ideal) a w b w1 c w2 d w3 (ix2 r j) *
      k0_pay3 (F := Ideal) a w b w1 c w2 d w3 (ix2 r j)) (Ideal.ofBits .f32 0x44800000#32) := by
  pointwise [k0_pay5]

/-- The first result's block. -/
theorem pay1_at (Y : FVec Ideal S256x1024 .f32) (x : FVec Ideal S256x1024 .f32) (g : FVec Ideal S1x1024 .f32) (M E : FVec Ideal S256x1 .f32)
    (r : Fin 256) (j : Fin 1024) :
    k0_pay1 (F := Ideal) Y x g M E (ix2 r j) = x (ix2 r j) + Y (ix2 r j) * Ideal.rsqrt (M (ix2 r 0) + E (ix2 r 0)) * g (ix2 0 j) := by
  pointwise [k0_pay1]

/-- The second result's block. -/
theorem pay2_at (Y : FVec Ideal S256x1024 .f32) (x : FVec Ideal S256x1024 .f32) (g : FVec Ideal S1x1024 .f32) (M E : FVec Ideal S256x1 .f32)
    (g2 : FVec Ideal S1x1024 .f32) (w : FVec Ideal S1024x1024 .bf16) (r : Fin 256) (j : Fin 1024) :
    k0_pay2 (F := Ideal) Y x g M E g2 w (ix2 r j) = prj (fun c => k0_pay1 (F := Ideal) Y x g M E (ix2 r c)) (fun c => g2 (ix2 0 c)) (fun i => w (ix2 i j))
      * Ideal.ofBits .f32 0x3D800000#32 := by
  pointwise [k0_pay2]
  rfl

/-- The normalized residual over a block. -/
theorem x1_at (x0 x1 x2 x3 : Vec Ideal S256x256 .f32) (x4 : Vec Ideal S256x1024 .f32) (x5 : Vec Ideal S1024x1024 .bf16)
    (x6 x7 : Vec Ideal S1x1024 .f32) (x8 : Vec Ideal S1024x1024 .bf16) (r : Fin 256) (j : Fin 1024) :
    k0_pay1 (F := Ideal) (k0_pay7 x0 x1 x2 x3 x4 x5 x6 x7 x8) (View.ld x4 r0_5) (k0_pay8 x0 x1 x2 x3 x4 x5 x6 x7 x8) (k0_pay9 x0 x1 x2 x3 x4 x5 x6 x7 x8)
      (k0_pay10 x0 x1 x2 x3 x4 x5 x6 x7 x8) (ix2 r j)
      = outRow (fun h e => (![x0, x1, x2, x3] h) (ix2 r e)) (fun i j => x5 (ix2 i j)) (fun c => x6 (ix2 0 c)) (fun c => x4 (ix2 r c)) j := by
  have h7 : ∀ j, k0_pay7 (F := Ideal) x0 x1 x2 x3 x4 x5 x6 x7 x8 (ix2 r j) =
      ∑ h : Fin 4, ∑ e : Fin 256, (![x0, x1, x2, x3] h) (ix2 r e) * x5 (ix2 ⟨h * 256 + e, by omega⟩ j) := fun j => by
    rw [k0_pay7, pay3_at, Fin.sum_univ_four]
    have p0 : ∀ e : Fin 256, (⟨((0 : Fin 4) : ℕ) * 256 + e, by omega⟩ : Fin 1024) = ⟨e, by omega⟩ := fun e => Fin.ext (by show 0 * 256 + (e : ℕ) = e; omega)
    simp only [p0]
    pointwise []
  have h9 : k0_pay9 (F := Ideal) x0 x1 x2 x3 x4 x5 x6 x7 x8 (ix2 r 0) = Ideal.div (∑ j : Fin 1024, k0_pay7 (F := Ideal) x0 x1 x2 x3 x4 x5 x6 x7 x8 (ix2 r j) *
      k0_pay7 (F := Ideal) x0 x1 x2 x3 x4 x5 x6 x7 x8 (ix2 r j)) (Ideal.ofBits .f32 0x44800000#32) := by
    rw [k0_pay9, pay5_at]; rfl
  rw [pay1_at, h9]
  simp only [h7]
  have h8 : k0_pay8 (F := Ideal) x0 x1 x2 x3 x4 x5 x6 x7 x8 (ix2 0 j) = x6 (ix2 0 j) := by rw [k0_pay8, k0_pay4]; pointwise []
  have h10 : k0_pay10 (F := Ideal) x0 x1 x2 x3 x4 x5 x6 x7 x8 (ix2 r 0) = Ideal.ofBits .f32 0x358637BD#32 := by rw [k0_pay10, k0_pay6]; pointwise []
  have h4 : View.ld x4 r0_5 (ix2 r j) = x4 (ix2 r j) := by pointwise []
  rw [h8, h10, h4]
  rfl

/-- What a grid point stores as its first result. -/
theorem block9_at (x0 x1 x2 x3 : Vec Ideal S256x256 .f32) (x4 : Vec Ideal S256x1024 .f32) (x5 : Vec Ideal S1024x1024 .bf16)
    (x6 x7 : Vec Ideal S1x1024 .f32) (x8 : Vec Ideal S1024x1024 .bf16) (r : Fin 256) (j : Fin 1024) :
    out0_9 x0 x1 x2 x3 x4 x5 x6 x7 x8 (ix2 r j)
      = outRow (fun h e => (![x0, x1, x2, x3] h) (ix2 r e)) (fun i j => x5 (ix2 i j)) (fun c => x6 (ix2 0 c)) (fun c => x4 (ix2 r c)) j := by
  rw [out0_9, View.canon_unit_zero (by decide), x1_at]

/-- What a grid point stores as its second result. -/
theorem block10_at (x0 x1 x2 x3 : Vec Ideal S256x256 .f32) (x4 : Vec Ideal S256x1024 .f32) (x5 : Vec Ideal S1024x1024 .bf16)
    (x6 x7 : Vec Ideal S1x1024 .f32) (x8 : Vec Ideal S1024x1024 .bf16) (r : Fin 256) (j : Fin 1024) :
    out0_10 x0 x1 x2 x3 x4 x5 x6 x7 x8 (ix2 r j)
      = prj (outRow (fun h e => (![x0, x1, x2, x3] h) (ix2 r e)) (fun i j => x5 (ix2 i j)) (fun c => x6 (ix2 0 c)) (fun c => x4 (ix2 r c)))
        (fun c => x7 (ix2 0 c)) (fun i => x8 (ix2 i j)) * Ideal.ofBits .f32 0x3D800000#32 := by
  rw [out0_10, View.canon_unit_zero (by decide), pay2_at]
  simp only [x1_at]
  pointwise []

variable (m : (ℓ : Loc nD τ sig) → Buf (Elt Ideal) ℓ)

/-- The block each window holds at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

/-- There are 64 grid points. -/
theorem lt64 (t : Fin cfg0.N) : t.val < 64 := t.isLt

/-- The first mixer's block. -/
theorem a_at (c : Dev nD) (t : Fin cfg0.N) (r e : Fin 256) :
    iblk m c 0 t (ix2 r e) = m ((c : Thread nD τ).loc main_arg0) (ix2 ⟨t.val * 256 + r, by have := lt64 t; omega⟩ e) := by
  blk_point [iblk, V, idx t]

/-- The second mixer's block. -/
theorem b_at (c : Dev nD) (t : Fin cfg0.N) (r e : Fin 256) :
    iblk m c 1 t (ix2 r e) = m ((c : Thread nD τ).loc main_arg1) (ix2 ⟨t.val * 256 + r, by have := lt64 t; omega⟩ e) := by
  blk_point [iblk, V, idx t]

/-- The third mixer's block. -/
theorem c_at (c : Dev nD) (t : Fin cfg0.N) (r e : Fin 256) :
    iblk m c 2 t (ix2 r e) = m ((c : Thread nD τ).loc main_arg2) (ix2 ⟨t.val * 256 + r, by have := lt64 t; omega⟩ e) := by
  blk_point [iblk, V, idx t]

/-- The fourth mixer's block. -/
theorem d_at (c : Dev nD) (t : Fin cfg0.N) (r e : Fin 256) :
    iblk m c 3 t (ix2 r e) = m ((c : Thread nD τ).loc main_arg3) (ix2 ⟨t.val * 256 + r, by have := lt64 t; omega⟩ e) := by
  blk_point [iblk, V, idx t]

/-- The residual's block. -/
theorem x_at (c : Dev nD) (t : Fin cfg0.N) (r : Fin 256) (e : Fin 1024) :
    iblk m c 4 t (ix2 r e) = m ((c : Thread nD τ).loc main_arg4) (ix2 ⟨t.val * 256 + r, by have := lt64 t; omega⟩ e) := by
  blk_point [iblk, V, idx t]

/-- The first projection's weights. -/
theorem w_at (c : Dev nD) (t : Fin cfg0.N) (i d : Fin 1024) : iblk m c 5 t (ix2 i d) = m ((c : Thread nD τ).loc main_arg5) (ix2 i d) := by
  blk_point [iblk, idx t]

/-- The first norm's weights. -/
theorem g_at (c : Dev nD) (t : Fin cfg0.N) (d : Fin 1024) : iblk m c 6 t (ix2 0 d) = m ((c : Thread nD τ).loc main_arg6) (ix1 d) := by
  blk_point [iblk, idx t]

/-- The second norm's weights. -/
theorem g2_at (c : Dev nD) (t : Fin cfg0.N) (d : Fin 1024) : iblk m c 7 t (ix2 0 d) = m ((c : Thread nD τ).loc main_arg7) (ix1 d) := by
  blk_point [iblk, idx t]

/-- The queries' weights. -/
theorem wq_at (c : Dev nD) (t : Fin cfg0.N) (i d : Fin 1024) : iblk m c 8 t (ix2 i d) = m ((c : Thread nD τ).loc main_arg8) (ix2 i d) := by
  blk_point [iblk, idx t]

/-- The mixers' rows of a block. -/
theorem mix_at (c : Dev nD) (t : Fin cfg0.N) (r : Fin 256) (h : Fin 4) (e : Fin 256) :
    (![(iblk m c 0 t : Vec Ideal S256x256 .f32), iblk m c 1 t, iblk m c 2 t, iblk m c 3 t] h) (ix2 r e) =
      (![(m ((c : Thread nD τ).loc main_arg0) : FVec Ideal S16384x256 .f32), m ((c : Thread nD τ).loc main_arg1), m ((c : Thread nD τ).loc main_arg2),
        m ((c : Thread nD τ).loc main_arg3)] h) (ix2 ⟨t.val * 256 + r, by have := lt64 t; omega⟩ e) := by
  fin_cases h
  · exact a_at m c t r e
  · exact b_at m c t r e
  · exact c_at m c t r e
  · exact d_at m c t r e

/-- The reference's first result over the kernel's arguments. -/
abbrev refX (c : Dev nD) : FVec Ideal S16384x1024 .f32 :=
  OutProjRefIdeal.Read.REFx (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The reference's second result over the kernel's arguments. -/
abbrev refQ (c : Dev nD) : FVec Ideal S16384x1024 .f32 :=
  OutProjRefIdeal.Read.REFq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

/-- A grid point's first result is the reference's at its rows. -/
theorem pointX (c : Dev nD) (t : Fin cfg0.N) (r : Fin 256) (d : Fin 1024) :
    out0_9 (iblk m c 0 t) (iblk m c 1 t) (iblk m c 2 t) (iblk m c 3 t) (iblk m c 4 t) (iblk m c 5 t) (iblk m c 6 t) (iblk m c 7 t) (iblk m c 8 t) (ix2 r d)
      = refX m c (ix2 ⟨t.val * 256 + r, by have := lt64 t; omega⟩ d) := by
  refine (block9_at _ _ _ _ _ _ _ _ _ r d).trans (Eq.trans ?_ (OutProjRefIdeal.Read.REFx_at _ _ _ _ _ _ _ _ _).symm)
  simp only [x_at, w_at, g_at]
  exact congrArg (fun M => outRow M _ _ _ d) (funext fun h => funext fun e => mix_at m c t r h e)

/-- A grid point's second result is the reference's at its rows. -/
theorem pointQ (c : Dev nD) (t : Fin cfg0.N) (r : Fin 256) (d : Fin 1024) :
    out0_10 (iblk m c 0 t) (iblk m c 1 t) (iblk m c 2 t) (iblk m c 3 t) (iblk m c 4 t) (iblk m c 5 t) (iblk m c 6 t) (iblk m c 7 t) (iblk m c 8 t) (ix2 r d)
      = refQ m c (ix2 ⟨t.val * 256 + r, by have := lt64 t; omega⟩ d) := by
  refine (block10_at _ _ _ _ _ _ _ _ _ r d).trans (Eq.trans ?_ (OutProjRefIdeal.Read.REFq_at _ _ _ _ _ _ _ _ _ _ _).symm)
  simp only [x_at, w_at, g_at, g2_at, wq_at]
  exact congrArg (fun M => prj (outRow M _ _ _) _ _ * _) (funext fun h => funext fun e => mix_at m c t r h e)

/-- The first result's array after the run. -/
theorem finalX (c : Dev nD) : (dats m 0 c).arrAt 9 (cfgs 0).N = refX m c := by
  refine (dats m 0 c).arrAt_eq_of_covers 9 _ (by decide +kernel) fun t hf y => ?_
  blk_simp; rw [after0_9]
  idx_vars y
  refine (pointX m c t _ _).trans (congrArg (refX m c) ?_)
  blk_ext [idx t]

/-- The second result's array after the run. -/
theorem finalQ (c : Dev nD) : (dats m 0 c).arrAt 10 (cfgs 0).N = refQ m c := by
  refine (dats m 0 c).arrAt_eq_of_covers 10 _ (by decide +kernel) fun t hf y => ?_
  blk_simp; rw [after0_10]
  idx_vars y
  refine (pointQ m c t _ _).trans (congrArg (refQ m c) ?_)
  blk_ext [idx t]

end Cert.OutProjIdeal.Value

end
-- ==== Proof.OutProjClaim.lean ====
/- The output projection's frame of the reference and its value claim. -/
module

public import proofs.«01_k».proof.Defs
public import proofs.«01_k».proof.Proof.OutProjValue
public import Idealize.ShloMosaic.Lib.Claim

@[expose] public section

set_option maxRecDepth 16384

noncomputable section

namespace Cert.OutProjClaim

open Idealize.ShloMosaic Idealize.ShloMosaic.TcCoe Idealize.SL.Sem

/-- The reference runs, leaves its arguments as they were and every counter at zero. -/
theorem frameRef : Cert.quiescent_OutProjRefIdeal (hOutProjRefIdeal := Cert.OutProjRefIdeal.Gen.facts) := fun m g _ =>
  (θ_run Cert.OutProjRefIdeal.defs _ _).mono (fun r h => ⟨fun c => (h c).2.2, sem_eq_zero_of_no_sems (by decide) r.2⟩)
    (Cert.OutProjRefIdeal.Value.run m g)

/-- From equal arguments, the kernel and the reference end with equal residuals and equal queries. -/
theorem algebraic : Cert.algebraic_OutProjIdeal_OutProjRefIdeal (hOutProjIdeal := Cert.OutProjIdeal.Gen.facts) (hOutProjRefIdeal := Cert.OutProjRefIdeal.Gen.facts) := by
  pair_intro
  · run_from Cert.OutProjIdeal.Gen.run_main m g
  · run_from Cert.OutProjRefIdeal.Value.run m' g'
    · exact (Cert.OutProjIdeal.Value.finalX m c).symm
    · obtain ⟨h0, h1, h2, h3, h4, h5, h6, h7, h8⟩ := hagree c
      rw [OutProjRefIdeal.Read.res_eq, h0, h1, h2, h3, h4, h5, h6, h7, h8]
      exact (Cert.OutProjIdeal.Value.finalQ m c).symm

end Cert.OutProjClaim

end
-- ==== Proof.lean ====
module

public import proofs.«01_k».proof.Defs
public import proofs.«01_k».proof.Proof.Gen.Xattn.Frame
public import proofs.«01_k».proof.Proof.XattnValue
public import proofs.«01_k».proof.Proof.Gen.Pre_finite
public import proofs.«01_k».proof.Proof.XattnClaim
public import proofs.«01_k».proof.Proof.Gen.InProj.Frame
public import proofs.«01_k».proof.Proof.Gen.InProjIdeal.Frame
public import proofs.«01_k».proof.Proof.Gen.InProjRefIdeal.Run
public import proofs.«01_k».proof.Proof.Gen.MemKv.Frame
public import proofs.«01_k».proof.Proof.Gen.MemKvIdeal.Frame
public import proofs.«01_k».proof.Proof.Gen.MemKvRefIdeal.Run
public import proofs.«01_k».proof.Proof.Gen.OutProj.Frame
public import proofs.«01_k».proof.Proof.Gen.OutProjIdeal.Frame
public import proofs.«01_k».proof.Proof.Gen.OutProjRefIdeal.Run
public import proofs.«01_k».proof.Proof.InProjClaim
public import proofs.«01_k».proof.Proof.MemKvClaim
public import proofs.«01_k».proof.Proof.OutProjClaim
public import Idealize.ShloMosaic.Lib.Claim

@[expose] public section

set_option maxRecDepth 16384

noncomputable section

namespace Cert.Proof

open Idealize.ShloMosaic Idealize.SL.Sem

theorem claim : Cert.Claim :=
  ⟨Cert.Xattn.Gen.facts, Cert.XattnIdeal.Gen.facts, Cert.XattnRefIdeal.Gen.facts,
   Cert.InProj.Gen.facts, Cert.InProjIdeal.Gen.facts, Cert.InProjRefIdeal.Gen.facts,
   Cert.MemKv.Gen.facts, Cert.MemKvIdeal.Gen.facts, Cert.MemKvRefIdeal.Gen.facts,
   Cert.OutProj.Gen.facts, Cert.OutProjIdeal.Gen.facts, Cert.OutProjRefIdeal.Gen.facts,
   Cert.Pre_finite.Gen.facts,
   fun m g _ => Cert.Xattn.Gen.frame m g, fun m g _ => Cert.XattnIdeal.Gen.frame m g,
   fun m g _ => Cert.XattnIdeal.Gen.frame m g,
   Cert.XattnClaim.frameRef,
   fun m g _ => Cert.XattnClaim.frameRef m g trivial,
   fun m g _ => Cert.InProj.Gen.frame m g, fun m g _ => Cert.InProjIdeal.Gen.frame m g,
   Cert.InProjClaim.frameRef,
   fun m g _ => Cert.MemKv.Gen.frame m g, fun m g _ => Cert.MemKvIdeal.Gen.frame m g,
   Cert.MemKvClaim.frameRef,
   fun m g _ => Cert.OutProj.Gen.frame m g, fun m g _ => Cert.OutProjIdeal.Gen.frame m g,
   Cert.OutProjClaim.frameRef,
   trivial, Cert.XattnClaim.algebraic, trivial, Cert.InProjClaim.algebraic, trivial, Cert.MemKvClaim.algebraic, trivial, Cert.OutProjClaim.algebraic⟩

end Cert.Proof

end
